-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "nlog2e" .f32 0xBFB8AA3B#32 ((-((Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_qk.lean ====
abbrev S4x4096x8x96 : Shape := ⟨4, ![4, 4096, 8, 96]⟩
abbrev S4x4096x8x64 : Shape := ⟨4, ![4, 4096, 8, 64]⟩
abbrev S_ : Shape := ⟨0, ![]⟩

class Facts : Prop where
  bcast_S_S4x4096x8x96 : S_.BroadcastsInDim S4x4096x8x96 (![] : Fin 0 → Fin S4x4096x8x96.rank)
  reducesTo_S4x4096x8x96_S_d0_1_2_3 : S4x4096x8x96.ReducesTo [0, 1, 2, 3] S_
  h_S_ : 0 < S_.numel

variable [Facts]

def fn {F : FTy → Type} [FloatOps F] (main_arg0 : FVec F S4x4096x8x96 .f32) (main_arg1 : FVec F S4x4096x8x96 .f32) (main_arg2 : FVec F S4x4096x8x64 .f32) : IVec S_ 1 :=
  let main_v0 : FVec F S4x4096x8x96 .f32 := Host.absf main_arg0
  let main_cst : FVec F S_ .f32 := constant S_ .f32 0x7F800000#32
  let main_v1 : FVec F S4x4096x8x96 .f32 := broadcastInDim S4x4096x8x96 ![] bcast_S_S4x4096x8x96 main_cst
  let main_v2 : IVec S4x4096x8x96 1 := cmpf .olt main_v0 main_v1
  let main_c : IVec S_ 1 := constantI S_ 1 1#1
  let main_v3 : IVec S_ 1 := (fun x v => Host.reduce IntOp.andi x v reducesTo_S4x4096x8x96_S_d0_1_2_3 h_S_) main_v2 main_c
  let main_v4 : FVec F S4x4096x8x96 .f32 := Host.absf main_arg1
  let main_cst_0 : FVec F S_ .f32 := constant S_ .f32 0x7F800000#32
  let main_v5 : FVec F S4x4096x8x96 .f32 := broadcastInDim S4x4096x8x96 ![] bcast_S_S4x4096x8x96 main_cst_0
  let main_v6 : IVec S4x4096x8x96 1 := cmpf .olt main_v4 main_v5
  let main_c_1 : IVec S_ 1 := constantI S_ 1 1#1
  let main_v7 : IVec S_ 1 := (fun x v => Host.reduce IntOp.andi x v reducesTo_S4x4096x8x96_S_d0_1_2_3 h_S_) main_v6 main_c_1
  let main_v8 : IVec S_ 1 := andi main_v3 main_v7
  main_v8
-- ==== Kernel.lean ====
abbrev S4x4096x8x96 : Shape := ⟨4, ![4, 4096, 8, 96]⟩
abbrev S4x4096x8x64 : Shape := ⟨4, ![4, 4096, 8, 64]⟩
abbrev S_ : Shape := ⟨0, ![]⟩
abbrev S4x4096x8x128 : Shape := ⟨4, ![4, 4096, 8, 128]⟩
abbrev S16384x2x512 : Shape := ⟨3, ![16384, 2, 512]⟩
abbrev S2x16384x512 : Shape := ⟨3, ![2, 16384, 512]⟩
abbrev S4x4096x4x2x64 : Shape := ⟨5, ![4, 4096, 4, 2, 64]⟩
abbrev S4x4096x4x1x64 : Shape := ⟨5, ![4, 4096, 4, 1, 64]⟩
abbrev S4x4096x4x64 : Shape := ⟨4, ![4, 4096, 4, 64]⟩
abbrev S4x4096x4x256 : Shape := ⟨4, ![4, 4096, 4, 256]⟩
abbrev S16384x512 : Shape := ⟨2, ![16384, 512]⟩
abbrev S1x512x512 : Shape := ⟨3, ![1, 512, 512]⟩
abbrev S1x4096x512 : Shape := ⟨3, ![1, 4096, 512]⟩
abbrev S512x256 : Shape := ⟨2, ![512, 256]⟩
abbrev S4x512x512 : Shape := ⟨3, ![4, 512, 512]⟩
abbrev S4x512x128 : Shape := ⟨3, ![4, 512, 128]⟩
abbrev S512x512 : Shape := ⟨2, ![512, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 36
  | .vmem => 13
  | .smem => 0
  | _ => 0

abbrev bufTy : (tb : Table) → Fin (tcTables nBuf tb) → BufTy
  | .hbm, ⟨0, _⟩ => ⟨S4x4096x8x96, .f32⟩
  | .hbm, ⟨1, _⟩ => ⟨S4x4096x8x96, .f32⟩
  | .hbm, ⟨2, _⟩ => ⟨S4x4096x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x4096x8x96, .f32⟩
  | .hbm, ⟨9, _⟩ => ⟨S4x4096x8x96, .f32⟩
  | .hbm, ⟨10, _⟩ => ⟨S_, .i32⟩
  | .hbm, ⟨11, _⟩ => ⟨S_, .f32⟩
  | .hbm, ⟨12, _⟩ => ⟨S4x4096x8x128, .f32⟩
  | .hbm, ⟨13, _⟩ => ⟨S4x4096x8x128, .bf16⟩
  | .hbm, ⟨14, _⟩ => ⟨S16384x2x512, .bf16⟩
  | .hbm, ⟨15, _⟩ => ⟨S2x16384x512, .bf16⟩
  | .hbm, ⟨16, _⟩ => ⟨S_, .i32⟩
  | .hbm, ⟨17, _⟩ => ⟨S_, .f32⟩
  | .hbm, ⟨18, _⟩ => ⟨S4x4096x8x128, .f32⟩
  | .hbm, ⟨19, _⟩ => ⟨S4x4096x8x128, .bf16⟩
  | .hbm, ⟨20, _⟩ => ⟨S16384x2x512, .bf16⟩
  | .hbm, ⟨21, _⟩ => ⟨S2x16384x512, .bf16⟩
  | .hbm, ⟨22, _⟩ => ⟨S4x4096x4x2x64, .f32⟩
  | .hbm, ⟨23, _⟩ => ⟨S4x4096x4x1x64, .f32⟩
  | .hbm, ⟨24, _⟩ => ⟨S4x4096x4x64, .f32⟩
  | .hbm, ⟨25, _⟩ => ⟨S_, .f32⟩
  | .hbm, ⟨26, _⟩ => ⟨S4x4096x4x64, .f32⟩
  | .hbm, ⟨27, _⟩ => ⟨S4x4096x4x1x64, .f32⟩
  | .hbm, ⟨28, _⟩ => ⟨S4x4096x4x64, .f32⟩
  | .hbm, ⟨29, _⟩ => ⟨S4x4096x4x1x64, .f32⟩
  | .hbm, ⟨30, _⟩ => ⟨S4x4096x4x64, .f32⟩
  | .hbm, ⟨31, _⟩ => ⟨S4x4096x4x256, .f32⟩
  | .hbm, ⟨32, _⟩ => ⟨S4x4096x4x256, .bf16⟩
  | .hbm, ⟨33, _⟩ => ⟨S16384x2x512, .bf16⟩
  | .hbm, ⟨34, _⟩ => ⟨S2x16384x512, .bf16⟩
  | .hbm, ⟨35, _⟩ => ⟨S16384x512, .f32⟩
  | .local _ .vmem, ⟨0, _⟩ => ⟨S1x512x512, .bf16⟩
  | .local _ .vmem, ⟨1, _⟩ => ⟨S1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S512x256, .f32⟩
  | .local _ .vmem, ⟨7, _⟩ => ⟨S512x256, .f32⟩
  | .local _ .vmem, ⟨8, _⟩ => ⟨S4x512x512, .f32⟩
  | .local _ .vmem, ⟨9, _⟩ => ⟨S4x512x512, .bf16⟩
  | .local _ .vmem, ⟨10, _⟩ => ⟨S4x512x128, .f32⟩
  | .local _ .vmem, ⟨11, _⟩ => ⟨S4x512x128, .f32⟩
  | .local _ .vmem, ⟨12, _⟩ => ⟨S4x512x128, .f32⟩
  | _, _ => ⟨S4x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

@[reducible] def k0_t1_loop (i : grid0.Coords) : Scf.Loop 32 :=
  let c0_i32_18 : BitVec 32 := 0#32
  let arg2 : BitVec 32 := BitVec.ofNat 32 (i 2).val
  let v59 : BitVec 32 := Scalar.subi arg2 c0_i32_18
  let c1_i32_19 : BitVec 32 := 1#32
  let v61 : BitVec 32 := Scalar.divsi v59 c1_i32_19
  let v62 : BitVec 32 := Scalar.muli v61 c1_i32_19
  let v63 : BitVec 32 := Scalar.addi c0_i32_18 v62
  let c1_i32_20 : BitVec 32 := 1#32
  ⟨c0_i32_18, v63, c1_i32_20⟩
def k0_mult1 (i : grid0.Coords) (k0_t1 : Fin (k0_t1_loop i).trips) : BitVec 32 :=
  let c0_i32_18 : BitVec 32 := 0#32
  let c1_i32_20 : BitVec 32 := 1#32
  let arg12 : BitVec 32 := Scf.iv c0_i32_18 c1_i32_20 k0_t1
  let c512_i32_282 : BitVec 32 := 512#32
  let v391 : BitVec 32 := Scalar.muli arg12 c512_i32_282
  v391
def k0_off1 (i : grid0.Coords) (k0_t1 : Fin (k0_t1_loop i).trips) : Fin 3 → Nat :=
  let c0_286 : Index := 0#32
  let c0_i32_18 : BitVec 32 := 0#32
  let c1_i32_20 : BitVec 32 := 1#32
  let arg12 : BitVec 32 := Scf.iv c0_i32_18 c1_i32_20 k0_t1
  let c512_i32_282 : BitVec 32 := 512#32
  let v391 : BitVec 32 := Scalar.muli arg12 c512_i32_282
  let v392 : BitVec 32 := v391
  let v395 : Index := Scalar.indexCast v392
  let c0_287 : Index := 0#32
  ![0, v395.toNat, 0]
def k0_off2 (i : grid0.Coords) (k0_t1 : Fin (k0_t1_loop i).trips) : Fin 3 → Nat :=
  let c0_305 : Index := 0#32
  let c0_i32_18 : BitVec 32 := 0#32
  let c1_i32_20 : BitVec 32 := 1#32
  let arg12 : BitVec 32 := Scf.iv c0_i32_18 c1_i32_20 k0_t1
  let c512_i32_282 : BitVec 32 := 512#32
  let v391 : BitVec 32 := Scalar.muli arg12 c512_i32_282
  let v392 : BitVec 32 := v391
  let v418 : Index := Scalar.indexCast v392
  let c128_306 : Index := 128#32
  ![0, v418.toNat, 128]
def k0_off3 (i : grid0.Coords) (k0_t1 : Fin (k0_t1_loop i).trips) : Fin 3 → Nat :=
  let c0_324 : Index := 0#32
  let c0_i32_18 : BitVec 32 := 0#32
  let c1_i32_20 : BitVec 32 := 1#32
  let arg12 : BitVec 32 := Scf.iv c0_i32_18 c1_i32_20 k0_t1
  let c512_i32_282 : BitVec 32 := 512#32
  let v391 : BitVec 32 := Scalar.muli arg12 c512_i32_282
  let v392 : BitVec 32 := v391
  let v441 : Index := Scalar.indexCast v392
  let c256_325 : Index := 256#32
  ![0, v441.toNat, 256]
def k0_off4 (i : grid0.Coords) (k0_t1 : Fin (k0_t1_loop i).trips) : Fin 3 → Nat :=
  let c0_343 : Index := 0#32
  let c0_i32_18 : BitVec 32 := 0#32
  let c1_i32_20 : BitVec 32 := 1#32
  let arg12 : BitVec 32 := Scf.iv c0_i32_18 c1_i32_20 k0_t1
  let c512_i32_282 : BitVec 32 := 512#32
  let v391 : BitVec 32 := Scalar.muli arg12 c512_i32_282
  let v392 : BitVec 32 := v391
  let v464 : Index := Scalar.indexCast v392
  let c384_344 : Index := 384#32
  ![0, v464.toNat, 384]
@[reducible] def k0_t2_loop (i : grid0.Coords) : Scf.Loop 32 :=
  let c0_i32_18 : BitVec 32 := 0#32
  let arg2 : BitVec 32 := BitVec.ofNat 32 (i 2).val
  let v59 : BitVec 32 := Scalar.subi arg2 c0_i32_18
  let c1_i32_19 : BitVec 32 := 1#32
  let v61 : BitVec 32 := Scalar.divsi v59 c1_i32_19
  let v62 : BitVec 32 := Scalar.muli v61 c1_i32_19
  let v63 : BitVec 32 := Scalar.addi c0_i32_18 v62
  let v60 : BitVec 32 := Scalar.addi c0_i32_18 v59
  let c1_i32_21 : BitVec 32 := 1#32
  ⟨v63, v60, c1_i32_21⟩
def k0_mult2 (i : grid0.Coords) (k0_t2 : Fin (k0_t2_loop i).trips) : BitVec 32 :=
  let c0_i32_18 : BitVec 32 := 0#32
  let arg2 : BitVec 32 := BitVec.ofNat 32 (i 2).val
  let v59 : BitVec 32 := Scalar.subi arg2 c0_i32_18
  let c1_i32_19 : BitVec 32 := 1#32
  let v61 : BitVec 32 := Scalar.divsi v59 c1_i32_19
  let v62 : BitVec 32 := Scalar.muli v61 c1_i32_19
  let v63 : BitVec 32 := Scalar.addi c0_i32_18 v62
  let c1_i32_21 : BitVec 32 := 1#32
  let arg12 : BitVec 32 := Scf.iv v63 c1_i32_21 k0_t2
  let c512_i32_282 : BitVec 32 := 512#32
  let v391 : BitVec 32 := Scalar.muli arg12 c512_i32_282
  v391
def k0_off5 (i : grid0.Coords) (k0_t2 : Fin (k0_t2_loop i).trips) : Fin 3 → Nat :=
  let c0_286 : Index := 0#32
  let c0_i32_18 : BitVec 32 := 0#32
  let arg2 : BitVec 32 := BitVec.ofNat 32 (i 2).val
  let v59 : BitVec 32 := Scalar.subi arg2 c0_i32_18
  let c1_i32_19 : BitVec 32 := 1#32
  let v61 : BitVec 32 := Scalar.divsi v59 c1_i32_19
  let v62 : BitVec 32 := Scalar.muli v61 c1_i32_19
  let v63 : BitVec 32 := Scalar.addi c0_i32_18 v62
  let c1_i32_21 : BitVec 32 := 1#32
  let arg12 : BitVec 32 := Scf.iv v63 c1_i32_21 k0_t2
  let c512_i32_282 : BitVec 32 := 512#32
  let v391 : BitVec 32 := Scalar.muli arg12 c512_i32_282
  let v392 : BitVec 32 := v391
  let v395 : Index := Scalar.indexCast v392
  let c0_287 : Index := 0#32
  ![0, v395.toNat, 0]
def k0_off6 (i : grid0.Coords) (k0_t2 : Fin (k0_t2_loop i).trips) : Fin 3 → Nat :=
  let c0_305 : Index := 0#32
  let c0_i32_18 : BitVec 32 := 0#32
  let arg2 : BitVec 32 := BitVec.ofNat 32 (i 2).val
  let v59 : BitVec 32 := Scalar.subi arg2 c0_i32_18
  let c1_i32_19 : BitVec 32 := 1#32
  let v61 : BitVec 32 := Scalar.divsi v59 c1_i32_19
  let v62 : BitVec 32 := Scalar.muli v61 c1_i32_19
  let v63 : BitVec 32 := Scalar.addi c0_i32_18 v62
  let c1_i32_21 : BitVec 32 := 1#32
  let arg12 : BitVec 32 := Scf.iv v63 c1_i32_21 k0_t2
  let c512_i32_282 : BitVec 32 := 512#32
  let v391 : BitVec 32 := Scalar.muli arg12 c512_i32_282
  let v392 : BitVec 32 := v391
  let v418 : Index := Scalar.indexCast v392
  let c128_306 : Index := 128#32
  ![0, v418.toNat, 128]
def k0_off7 (i : grid0.Coords) (k0_t2 : Fin (k0_t2_loop i).trips) : Fin 3 → Nat :=
  let c0_324 : Index := 0#32
  let c0_i32_18 : BitVec 32 := 0#32
  let arg2 : BitVec 32 := BitVec.ofNat 32 (i 2).val
  let v59 : BitVec 32 := Scalar.subi arg2 c0_i32_18
  let c1_i32_19 : BitVec 32 := 1#32
  let v61 : BitVec 32 := Scalar.divsi v59 c1_i32_19
  let v62 : BitVec 32 := Scalar.muli v61 c1_i32_19
  let v63 : BitVec 32 := Scalar.addi c0_i32_18 v62
  let c1_i32_21 : BitVec 32 := 1#32
  let arg12 : BitVec 32 := Scf.iv v63 c1_i32_21 k0_t2
  let c512_i32_282 : BitVec 32 := 512#32
  let v391 : BitVec 32 := Scalar.muli arg12 c512_i32_282
  let v392 : BitVec 32 := v391
  let v441 : Index := Scalar.indexCast v392
  let c256_325 : Index := 256#32
  ![0, v441.toNat, 256]
def k0_off8 (i : grid0.Coords) (k0_t2 : Fin (k0_t2_loop i).trips) : Fin 3 → Nat :=
  let c0_343 : Index := 0#32
  let c0_i32_18 : BitVec 32 := 0#32
  let arg2 : BitVec 32 := BitVec.ofNat 32 (i 2).val
  let v59 : BitVec 32 := Scalar.subi arg2 c0_i32_18
  let c1_i32_19 : BitVec 32 := 1#32
  let v61 : BitVec 32 := Scalar.divsi v59 c1_i32_19
  let v62 : BitVec 32 := Scalar.muli v61 c1_i32_19
  let v63 : BitVec 32 := Scalar.addi c0_i32_18 v62
  let c1_i32_21 : BitVec 32 := 1#32
  let arg12 : BitVec 32 := Scf.iv v63 c1_i32_21 k0_t2
  let c512_i32_282 : BitVec 32 := 512#32
  let v391 : BitVec 32 := Scalar.muli arg12 c512_i32_282
  let v392 : BitVec 32 := v391
  let v464 : Index := Scalar.indexCast v392
  let c384_344 : Index := 384#32
  ![0, v464.toNat, 384]
def k0_mult3 (i : grid0.Coords) : BitVec 32 :=
  let arg2 : BitVec 32 := BitVec.ofNat 32 (i 2).val
  let c512_i32 : BitVec 32 := 512#32
  let v64 : BitVec 32 := Scalar.muli arg2 c512_i32
  v64
def k0_off9 (i : grid0.Coords) : Fin 3 → Nat :=
  let c0_25 : Index := 0#32
  let arg2 : BitVec 32 := BitVec.ofNat 32 (i 2).val
  let c512_i32 : BitVec 32 := 512#32
  let v64 : BitVec 32 := Scalar.muli arg2 c512_i32
  let v65 : BitVec 32 := v64
  let v68 : Index := Scalar.indexCast v65
  let c0_26 : Index := 0#32
  ![0, v68.toNat, 0]
def k0_off10 (i : grid0.Coords) : Fin 3 → Nat :=
  let c0_44 : Index := 0#32
  let arg2 : BitVec 32 := BitVec.ofNat 32 (i 2).val
  let c512_i32 : BitVec 32 := 512#32
  let v64 : BitVec 32 := Scalar.muli arg2 c512_i32
  let v65 : BitVec 32 := v64
  let v93 : Index := Scalar.indexCast v65
  let c128_45 : Index := 128#32
  ![0, v93.toNat, 128]
def k0_off11 (i : grid0.Coords) : Fin 3 → Nat :=
  let c0_62 : Index := 0#32
  let arg2 : BitVec 32 := BitVec.ofNat 32 (i 2).val
  let c512_i32 : BitVec 32 := 512#32
  let v64 : BitVec 32 := Scalar.muli arg2 c512_i32
  let v65 : BitVec 32 := v64
  let v118 : Index := Scalar.indexCast v65
  let c256_63 : Index := 256#32
  ![0, v118.toNat, 256]
def k0_off12 (i : grid0.Coords) : Fin 3 → Nat :=
  let c0_80 : Index := 0#32
  let arg2 : BitVec 32 := BitVec.ofNat 32 (i 2).val
  let c512_i32 : BitVec 32 := 512#32
  let v64 : BitVec 32 := Scalar.muli arg2 c512_i32
  let v65 : BitVec 32 := v64
  let v143 : Index := Scalar.indexCast v65
  let c384_81 : Index := 384#32
  ![0, v143.toNat, 384]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x8x96 : Shape := ⟨4, ![4, 4096, 8, 96]⟩
abbrev S4x4096x8x64 : Shape := ⟨4, ![4, 4096, 8, 64]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x8x4096x4096 : Shape := ⟨4, ![4, 8, 4096, 4096]⟩
abbrev S1x1x4096x4096 : Shape := ⟨4, ![1, 1, 4096, 4096]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S16384x512 : Shape := ⟨2, ![16384, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x8x96, .f32⟩
  | .hbm, ⟨1, _⟩ => ⟨S4x4096x8x96, .f32⟩
  | .hbm, ⟨2, _⟩ => ⟨S4x4096x8x64, .f32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i32⟩
  | .hbm, ⟨7, _⟩ => ⟨S1x4096, .i32⟩
  | .hbm, ⟨8, _⟩ => ⟨S4096x1, .i32⟩
  | .hbm, ⟨9, _⟩ => ⟨S4096x4096, .i32⟩
  | .hbm, ⟨10, _⟩ => ⟨S4096x4096, .i32⟩
  | .hbm, ⟨11, _⟩ => ⟨S4096x4096, .i1⟩
  | .hbm, ⟨12, _⟩ => ⟨S4x8x4096x4096, .f32⟩
  | .hbm, ⟨13, _⟩ => ⟨S_, .f32⟩
  | .hbm, ⟨14, _⟩ => ⟨S_, .f32⟩
  | .hbm, ⟨15, _⟩ => ⟨S4x8x4096x4096, .f32⟩
  | .hbm, ⟨16, _⟩ => ⟨S4x8x4096x4096, .f32⟩
  | .hbm, ⟨17, _⟩ => ⟨S1x1x4096x4096, .i1⟩
  | .hbm, ⟨18, _⟩ => ⟨S_, .f32⟩
  | .hbm, ⟨19, _⟩ => ⟨S_, .f32⟩
  | .hbm, ⟨20, _⟩ => ⟨S4x8x4096x4096, .i1⟩
  | .hbm, ⟨21, _⟩ => ⟨S4x8x4096x4096, .f32⟩
  | .hbm, ⟨22, _⟩ => ⟨S4x8x4096x4096, .f32⟩
  | .hbm, ⟨23, _⟩ => ⟨S_, .f32⟩
  | .hbm, ⟨24, _⟩ => ⟨S4x8x4096, .f32⟩
  | .hbm, ⟨25, _⟩ => ⟨S_, .f32⟩
  | .hbm, ⟨26, _⟩ => ⟨S4x8x4096, .f32⟩
  | .hbm, ⟨27, _⟩ => ⟨S4x8x4096, .f32⟩
  | .hbm, ⟨28, _⟩ => ⟨S4x8x4096x1, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S_, .f32⟩
  | .hbm, ⟨33, _⟩ => ⟨S4x8x4096, .f32⟩
  | .hbm, ⟨34, _⟩ => ⟨S4x8x4096x1, .f32⟩
  | .hbm, ⟨35, _⟩ => ⟨S4x8x4096x4096, .f32⟩
  | .hbm, ⟨36, _⟩ => ⟨S4x8x4096x4096, .f32⟩
  | .hbm, ⟨37, _⟩ => ⟨S4x8x64x4096, .f32⟩
  | .hbm, ⟨38, _⟩ => ⟨S4x4096x8x64, .f32⟩
  | .hbm, ⟨39, _⟩ => ⟨S16384x512, .f32⟩
  | _, _ => ⟨S4x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel2.lean ====
abbrev S4x4096x512 : Shape := ⟨3, ![4, 4096, 512]⟩
abbrev S4x4096x1536 : Shape := ⟨3, ![4, 4096, 1536]⟩
abbrev S4x4096x3072 : Shape := ⟨3, ![4, 4096, 3072]⟩
abbrev S4x4096x1024 : Shape := ⟨3, ![4, 4096, 1024]⟩
abbrev S4x1024 : Shape := ⟨2, ![4, 1024]⟩
abbrev S1024 : Shape := ⟨1, ![1024]⟩
abbrev S3x512x1024 : Shape := ⟨3, ![3, 512, 1024]⟩
abbrev S1024x1024 : Shape := ⟨2, ![1024, 1024]⟩
abbrev S_ : Shape := ⟨0, ![]⟩
abbrev S16384x2560 : Shape := ⟨2, ![16384, 2560]⟩
abbrev S16384x1536 : Shape := ⟨2, ![16384, 1536]⟩
abbrev S16384x3072 : Shape := ⟨2, ![16384, 3072]⟩
abbrev S16384x1024 : Shape := ⟨2, ![16384, 1024]⟩
abbrev S16384x8192 : Shape := ⟨2, ![16384, 8192]⟩
abbrev S16384x512 : Shape := ⟨2, ![16384, 512]⟩
abbrev S4x1x1024 : Shape := ⟨3, ![4, 1, 1024]⟩
abbrev S1x1024 : Shape := ⟨2, ![1, 1024]⟩
abbrev S1x3x512x1024 : Shape := ⟨4, ![1, 3, 512, 1024]⟩
abbrev S1x1024x1024 : Shape := ⟨3, ![1, 1024, 1024]⟩
abbrev S512x512 : Shape := ⟨2, ![512, 512]⟩
abbrev S512x1024 : Shape := ⟨2, ![512, 1024]⟩
abbrev S1x1x1024 : Shape := ⟨3, ![1, 1, 1024]⟩
abbrev S1x1x512x1024 : Shape := ⟨4, ![1, 1, 512, 1024]⟩
abbrev S512 : Shape := ⟨1, ![512]⟩
abbrev S512x1 : Shape := ⟨2, ![512, 1]⟩

abbrev nBuf : Space → Nat
  | .hbm => 30
  | .vmem => 27
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x1536, .f32⟩
  | .hbm, ⟨4, _⟩ => ⟨S4x4096x3072, .f32⟩
  | .hbm, ⟨5, _⟩ => ⟨S4x4096x1024, .f32⟩
  | .hbm, ⟨6, _⟩ => ⟨S4x1024, .f32⟩
  | .hbm, ⟨7, _⟩ => ⟨S1024, .f32⟩
  | .hbm, ⟨8, _⟩ => ⟨S3x512x1024, .f32⟩
  | .hbm, ⟨9, _⟩ => ⟨S1024x1024, .f32⟩
  | .hbm, ⟨10, _⟩ => ⟨S_, .bf16⟩
  | .hbm, ⟨11, _⟩ => ⟨S16384x2560, .bf16⟩
  | .hbm, ⟨12, _⟩ => ⟨S16384x1536, .f32⟩
  | .hbm, ⟨13, _⟩ => ⟨S16384x1536, .bf16⟩
  | .hbm, ⟨14, _⟩ => ⟨S16384x3072, .f32⟩
  | .hbm, ⟨15, _⟩ => ⟨S16384x3072, .bf16⟩
  | .hbm, ⟨16, _⟩ => ⟨S_, .bf16⟩
  | .hbm, ⟨17, _⟩ => ⟨S16384x1024, .bf16⟩
  | .hbm, ⟨18, _⟩ => ⟨S16384x8192, .bf16⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x1024, .f32⟩
  | .hbm, ⟨23, _⟩ => ⟨S4x1x1024, .f32⟩
  | .hbm, ⟨24, _⟩ => ⟨S1x1024, .f32⟩
  | .hbm, ⟨25, _⟩ => ⟨S3x512x1024, .bf16⟩
  | .hbm, ⟨26, _⟩ => ⟨S1x3x512x1024, .bf16⟩
  | .hbm, ⟨27, _⟩ => ⟨S1024x1024, .bf16⟩
  | .hbm, ⟨28, _⟩ => ⟨S1x1024x1024, .bf16⟩
  | .hbm, ⟨29, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1024, .f32⟩
  | .local _ .vmem, ⟨23, _⟩ => ⟨S1x3x512x1024, .bf16⟩
  | .local _ .vmem, ⟨24, _⟩ => ⟨S1x1024x1024, .bf16⟩
  | .local _ .vmem, ⟨25, _⟩ => ⟨S512x1024, .f32⟩
  | .local _ .vmem, ⟨26, _⟩ => ⟨S512x1024, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_8 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel2Ideal.lean ====
variable {F : FTy → Type} [FloatOps F] [Named F]
def κ : String → Option EReal := fun
  | "nlog2e" => some ((-((Real.log 2)⁻¹) : ℝ) : EReal)
  | _ => none
-- ==== Reference2Ideal.lean ====
abbrev S4x4096x512 : Shape := ⟨3, ![4, 4096, 512]⟩
abbrev S4x4096x1536 : Shape := ⟨3, ![4, 4096, 1536]⟩
abbrev S4x4096x3072 : Shape := ⟨3, ![4, 4096, 3072]⟩
abbrev S4x4096x1024 : Shape := ⟨3, ![4, 4096, 1024]⟩
abbrev S4x1024 : Shape := ⟨2, ![4, 1024]⟩
abbrev S1024 : Shape := ⟨1, ![1024]⟩
abbrev S3x512x1024 : Shape := ⟨3, ![3, 512, 1024]⟩
abbrev S1024x1024 : Shape := ⟨2, ![1024, 1024]⟩
abbrev S4x4096x1x512 : Shape := ⟨4, ![4, 4096, 1, 512]⟩
abbrev S4x4096x3x512 : Shape := ⟨4, ![4, 4096, 3, 512]⟩
abbrev S_ : Shape := ⟨0, ![]⟩
abbrev S3x1024x4x4096 : Shape := ⟨4, ![3, 1024, 4, 4096]⟩
abbrev S4x4096x3x1024 : Shape := ⟨4, ![4, 4096, 3, 1024]⟩
abbrev S4x1x1024 : Shape := ⟨3, ![4, 1, 1024]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x1536, .f32⟩
  | .hbm, ⟨4, _⟩ => ⟨S4x4096x3072, .f32⟩
  | .hbm, ⟨5, _⟩ => ⟨S4x4096x1024, .f32⟩
  | .hbm, ⟨6, _⟩ => ⟨S4x1024, .f32⟩
  | .hbm, ⟨7, _⟩ => ⟨S1024, .f32⟩
  | .hbm, ⟨8, _⟩ => ⟨S3x512x1024, .f32⟩
  | .hbm, ⟨9, _⟩ => ⟨S1024x1024, .f32⟩
  | .hbm, ⟨10, _⟩ => ⟨S4x4096x1x512, .f32⟩
  | .hbm, ⟨11, _⟩ => ⟨S4x4096x1x512, .f32⟩
  | .hbm, ⟨12, _⟩ => ⟨S4x4096x1x512, .f32⟩
  | .hbm, ⟨13, _⟩ => ⟨S4x4096x3x512, .f32⟩
  | .hbm, ⟨14, _⟩ => ⟨S4x4096x1536, .f32⟩
  | .hbm, ⟨15, _⟩ => ⟨S4x4096x1536, .f32⟩
  | .hbm, ⟨16, _⟩ => ⟨S_, .f32⟩
  | .hbm, ⟨17, _⟩ => ⟨S4x4096x1536, .f32⟩
  | .hbm, ⟨18, _⟩ => ⟨S4x4096x1536, .f32⟩
  | .hbm, ⟨19, _⟩ => ⟨S_, .f32⟩
  | .hbm, ⟨20, _⟩ => ⟨S4x4096x1536, .f32⟩
  | .hbm, ⟨21, _⟩ => ⟨S4x4096x1536, .f32⟩
  | .hbm, ⟨22, _⟩ => ⟨S4x4096x1536, .f32⟩
  | .hbm, ⟨23, _⟩ => ⟨S4x4096x3x512, .f32⟩
  | .hbm, ⟨24, _⟩ => ⟨S4x4096x3x512, .f32⟩
  | .hbm, ⟨25, _⟩ => ⟨S3x1024x4x4096, .f32⟩
  | .hbm, ⟨26, _⟩ => ⟨S4x4096x3x1024, .f32⟩
  | .hbm, ⟨27, _⟩ => ⟨S4x4096x3072, .f32⟩
  | .hbm, ⟨28, _⟩ => ⟨S4x4096x3072, .f32⟩
  | .hbm, ⟨29, _⟩ => ⟨S_, .f32⟩
  | .hbm, ⟨30, _⟩ => ⟨S4x4096x3072, .f32⟩
  | .hbm, ⟨31, _⟩ => ⟨S4x4096x3072, .f32⟩
  | .hbm, ⟨32, _⟩ => ⟨S_, .f32⟩
  | .hbm, ⟨33, _⟩ => ⟨S4x4096x3072, .f32⟩
  | .hbm, ⟨34, _⟩ => ⟨S4x4096x3072, .f32⟩
  | .hbm, ⟨35, _⟩ => ⟨S4x4096x3x1024, .f32⟩
  | .hbm, ⟨36, _⟩ => ⟨S4x4096x3x1024, .f32⟩
  | .hbm, ⟨37, _⟩ => ⟨S_, .f32⟩
  | .hbm, ⟨38, _⟩ => ⟨S4x4096x1024, .f32⟩
  | .hbm, ⟨39, _⟩ => ⟨S4x4096x1024, .f32⟩
  | .hbm, ⟨40, _⟩ => ⟨S4x1x1024, .f32⟩
  | .hbm, ⟨41, _⟩ => ⟨S4x4096x1024, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1, .f32⟩
  | .hbm, ⟨52, _⟩ => ⟨S4x4096x1024, .f32⟩
  | .hbm, ⟨53, _⟩ => ⟨S4x4096x1024, .f32⟩
  | .hbm, ⟨54, _⟩ => ⟨S1x1x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S16384x1024, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x1024 : Shape := ⟨2, ![4, 1024]⟩
abbrev S1024 : Shape := ⟨1, ![1024]⟩
abbrev S1024x7712 : Shape := ⟨2, ![1024, 7712]⟩
abbrev S16384x1024 : Shape := ⟨2, ![16384, 1024]⟩
abbrev S4x1x1024 : Shape := ⟨3, ![4, 1, 1024]⟩
abbrev S1x1024 : Shape := ⟨2, ![1, 1024]⟩
abbrev S1x1024x7712 : Shape := ⟨3, ![1, 1024, 7712]⟩
abbrev S1x7712x1024 : Shape := ⟨3, ![1, 7712, 1024]⟩
abbrev S1x32x1024 : Shape := ⟨3, ![1, 32, 1024]⟩
abbrev S1x16x1024 : Shape := ⟨3, ![1, 16, 1024]⟩
abbrev S_ : Shape := ⟨0, ![]⟩
abbrev S1x64x1024 : Shape := ⟨3, ![1, 64, 1024]⟩
abbrev S1x256x1024 : Shape := ⟨3, ![1, 256, 1024]⟩
abbrev S1x2560x1024 : Shape := ⟨3, ![1, 2560, 1024]⟩
abbrev S1x1536x1024 : Shape := ⟨3, ![1, 1536, 1024]⟩
abbrev S1x3072x1024 : Shape := ⟨3, ![1, 3072, 1024]⟩
abbrev S1x384x1024 : Shape := ⟨3, ![1, 384, 1024]⟩
abbrev S1x128x1024 : Shape := ⟨3, ![1, 128, 1024]⟩
abbrev S1x8192x1024 : Shape := ⟨3, ![1, 8192, 1024]⟩
abbrev S16384x8192 : Shape := ⟨2, ![16384, 8192]⟩
abbrev S1024x1024 : Shape := ⟨2, ![1024, 1024]⟩
abbrev S1x1x1024 : Shape := ⟨3, ![1, 1, 1024]⟩
abbrev S1x4096x1024 : Shape := ⟨3, ![1, 4096, 1024]⟩
abbrev S1024x4096 : Shape := ⟨2, ![1024, 4096]⟩
abbrev S1024x1 : Shape := ⟨2, ![1024, 1]⟩
abbrev S4096x1024 : Shape := ⟨2, ![4096, 1024]⟩

abbrev nBuf : Space → Nat
  | .hbm => 29
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x7712, .f32⟩
  | .hbm, ⟨5, _⟩ => ⟨S16384x1024, .f32⟩
  | .hbm, ⟨6, _⟩ => ⟨S4x1x1024, .f32⟩
  | .hbm, ⟨7, _⟩ => ⟨S4x1x1024, .f32⟩
  | .hbm, ⟨8, _⟩ => ⟨S1x1024, .f32⟩
  | .hbm, ⟨9, _⟩ => ⟨S1x1024x7712, .f32⟩
  | .hbm, ⟨10, _⟩ => ⟨S1x7712x1024, .f32⟩
  | .hbm, ⟨11, _⟩ => ⟨S1x7712x1024, .bf16⟩
  | .hbm, ⟨12, _⟩ => ⟨S1x32x1024, .bf16⟩
  | .hbm, ⟨13, _⟩ => ⟨S1x16x1024, .bf16⟩
  | .hbm, ⟨14, _⟩ => ⟨S1x16x1024, .bf16⟩
  | .hbm, ⟨15, _⟩ => ⟨S1x32x1024, .bf16⟩
  | .hbm, ⟨16, _⟩ => ⟨S_, .bf16⟩
  | .hbm, ⟨17, _⟩ => ⟨S1x64x1024, .bf16⟩
  | .hbm, ⟨18, _⟩ => ⟨S_, .bf16⟩
  | .hbm, ⟨19, _⟩ => ⟨S1x32x1024, .bf16⟩
  | .hbm, ⟨20, _⟩ => ⟨S_, .bf16⟩
  | .hbm, ⟨21, _⟩ => ⟨S1x256x1024, .bf16⟩
  | .hbm, ⟨22, _⟩ => ⟨S1x2560x1024, .bf16⟩
  | .hbm, ⟨23, _⟩ => ⟨S1x1536x1024, .bf16⟩
  | .hbm, ⟨24, _⟩ => ⟨S1x3072x1024, .bf16⟩
  | .hbm, ⟨25, _⟩ => ⟨S1x384x1024, .bf16⟩
  | .hbm, ⟨26, _⟩ => ⟨S1x128x1024, .bf16⟩
  | .hbm, ⟨27, _⟩ => ⟨S1x8192x1024, .bf16⟩
  | .hbm, ⟨28, _⟩ => ⟨S16384x8192, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x4096x1024, .bf16⟩
  | .local _ .vmem, ⟨8, _⟩ => ⟨S1x4096x1024, .bf16⟩
  | .local _ .vmem, ⟨9, _⟩ => ⟨S1024x4096, .bf16⟩
  | .local _ .vmem, ⟨10, _⟩ => ⟨S1024x4096, .bf16⟩
  | .local _ .vmem, ⟨11, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4x4096x1024 : Shape := ⟨3, ![4, 4096, 1024]⟩
abbrev S4x1024 : Shape := ⟨2, ![4, 1024]⟩
abbrev S1024 : Shape := ⟨1, ![1024]⟩
abbrev S1024x7712 : Shape := ⟨2, ![1024, 7712]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x7712 : Shape := ⟨3, ![4, 4096, 7712]⟩
abbrev S16384x7712 : Shape := ⟨2, ![16384, 7712]⟩
abbrev S16384x64 : Shape := ⟨2, ![16384, 64]⟩
abbrev S16384x2560 : Shape := ⟨2, ![16384, 2560]⟩
abbrev S16384x4608 : Shape := ⟨2, ![16384, 4608]⟩
abbrev S16384x384 : Shape := ⟨2, ![16384, 384]⟩
abbrev S16384x32 : Shape := ⟨2, ![16384, 32]⟩
abbrev S16384x16 : Shape := ⟨2, ![16384, 16]⟩
abbrev S16384x128 : Shape := ⟨2, ![16384, 128]⟩
abbrev S16384x8192 : Shape := ⟨2, ![16384, 8192]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x7712, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x4096x1024, .f32⟩
  | .hbm, ⟨26, _⟩ => ⟨S4x4096x1024, .f32⟩
  | .hbm, ⟨27, _⟩ => ⟨S4x1x1024, .f32⟩
  | .hbm, ⟨28, _⟩ => ⟨S4x4096x1024, .f32⟩
  | .hbm, ⟨29, _⟩ => ⟨S4x4096x1024, .f32⟩
  | .hbm, ⟨30, _⟩ => ⟨S4x4096x7712, .f32⟩
  | .hbm, ⟨31, _⟩ => ⟨S16384x7712, .f32⟩
  | .hbm, ⟨32, _⟩ => ⟨S_, .f32⟩
  | .hbm, ⟨33, _⟩ => ⟨S16384x64, .f32⟩
  | .hbm, ⟨34, _⟩ => ⟨S16384x2560, .f32⟩
  | .hbm, ⟨35, _⟩ => ⟨S16384x4608, .f32⟩
  | .hbm, ⟨36, _⟩ => ⟨S16384x384, .f32⟩
  | .hbm, ⟨37, _⟩ => ⟨S16384x32, .f32⟩
  | .hbm, ⟨38, _⟩ => ⟨S16384x32, .f32⟩
  | .hbm, ⟨39, _⟩ => ⟨S16384x16, .f32⟩
  | .hbm, ⟨40, _⟩ => ⟨S16384x16, .f32⟩
  | .hbm, ⟨41, _⟩ => ⟨S16384x32, .f32⟩
  | .hbm, ⟨42, _⟩ => ⟨S16384x128, .f32⟩
  | .hbm, ⟨43, _⟩ => ⟨S16384x8192, .f32⟩
  | .hbm, ⟨44, _⟩ => ⟨S16384x8192, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Proof.Body.lean ====
/-
  The attention kernel's body at one grid point: run once, at any operands, from its three input blocks, its output
  block and its five scratch buffers held at any contents. What the output block ends with is the list of pieces the
  run finds; the scratch ends at something.
-/
module

public import proofs.«01_k».proof.Proof.Gen.KernelIdeal.Frame
public import proofs.«01_k».proof.Proof.Gen.KernelIdeal.Loops

@[expose] public section

set_option maxRecDepth 16384
set_option maxHeartbeats 4000000

noncomputable section

namespace Cert.Proof.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Memref `M`'s contents, and its buffer held at `f`. -/
abbrev Ct {S : Shape} {e : EltTy} (M : Memref sig .tc .vmem S e) : Type := BufTy.Contents (Elt F) M.view.ty
abbrev at_ (c : Dev nD) {S : Shape} {e : EltTy} (M : Memref sig .tc .vmem S e) (f : Ct (F := F) M) : sProp 𝕄 :=
  M.view.loc (c : Thread nD τ) ↦[M.view.set]{fullShare} f

/-- One run of the body: the pieces the output block is left with, and the run itself. -/
def kernelRun (c : Dev nD) (i : grid0.Coords)
    (arg3 : Memref sig .tc .vmem S1x512x512 .bf16) (harg3 : arg3.IsWhole)
    (arg4 : Memref sig .tc .vmem S1x4096x512 .bf16) (harg4 : arg4.IsWhole)
    (arg5 : Memref sig .tc .vmem S1x4096x512 .bf16) (harg5 : arg5.IsWhole)
    (arg6 : Memref sig .tc .vmem S512x256 .f32) (harg6 : arg6.IsWhole)
    (arg7 : Memref sig .tc .vmem S4x512x512 .f32) (harg7 : arg7.IsWhole)
    (arg8 : Memref sig .tc .vmem S4x512x512 .bf16) (harg8 : arg8.IsWhole)
    (arg9 : Memref sig .tc .vmem S4x512x128 .f32) (harg9 : arg9.IsWhole)
    (arg10 : Memref sig .tc .vmem S4x512x128 .f32) (harg10 : arg10.IsWhole)
    (arg11 : Memref sig .tc .vmem S4x512x128 .f32) (harg11 : arg11.IsWhole)
    (X3 : Ct (F := F) arg3) (X4 : Ct (F := F) arg4) (X5 : Ct (F := F) arg5) (f6 : Ct (F := F) arg6)
    (f7 : Ct (F := F) arg7) (f8 : Ct (F := F) arg8) (f9 : Ct (F := F) arg9) (f10 : Ct (F := F) arg10)
    (f11 : Ct (F := F) arg11) :
    { L6 : List (View.Piece (Elt F) S512x256 .f32) // ∀ E : Set ℕ,
      iprop(at_ c arg3 X3 ∗ at_ c arg4 X4 ∗ at_ c arg5 X5 ∗ at_ c arg6 f6 ∗ at_ c arg7 f7 ∗ at_ c arg8 f8
        ∗ at_ c arg9 f9 ∗ at_ c arg10 f10 ∗ at_ c arg11 f11)
      ⊢ wp frame (wpE (defs₀ (F := F)) Variants.none (c : Thread nD τ) none) E
          (cc0_attention i arg3 harg3 arg4 harg4 arg5 harg5 arg6 harg6 arg7 harg7 arg8 harg8 arg9 harg9 arg10 harg10 arg11 harg11)
          (fun _ => iprop(at_ c arg3 X3 ∗ at_ c arg4 X4 ∗ at_ c arg5 X5 ∗ at_ c arg6 (arg6.view.writes (Elt F) f6 L6)
            ∗ (∃ f, at_ c arg7 f) ∗ (∃ f, at_ c arg8 f) ∗ (∃ f, at_ c arg9 f) ∗ (∃ f, at_ c arg10 f)
            ∗ (∃ f, at_ c arg11 f))) } := by
  refine ⟨?_, fun E => ?run⟩
  case run =>
    rewrite [cc0_attention_eq_skeleton]; unfold cc0_attention_skel
    iintro ⟨H3, H4, H5, H6, H7, H8, H9, H10, H11⟩
    sl_exec
    sl_step
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iexists _; iexact H11

end Cert.Proof.Att

end
-- ==== Proof.FrameRun.lean ====
/-
  The attention kernel's frame: the launch of its one region, the body run at every grid point with the output block
  forgotten, the arguments read back unchanged and every semaphore counter at zero.
-/
module

public import proofs.«01_k».proof.Proof.Body
public import Idealize.ShloMosaic.Lib.Pipeline.Frame

@[expose] public section

set_option maxRecDepth 16384
set_option maxHeartbeats 4000000

noncomputable section

namespace Cert.Proof.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (g : Dev nD → PrngReg)

/-- The region's data with nothing said of the result: each input block stays as fetched. -/
def fdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

theorem fdat_A (c : Dev nD) (w : Fin cfg0.W) : (fdat m 0 c).A w = V m c (Pipeline.arrRef spec0 w) := by dsimp only [fdat]
theorem fdat_after0 (c : Dev nD) (t : Fin cfg0.N) : (fdat m 0 c).after 0 t = iblk m c 0 t := by dsimp only [fdat]
theorem fdat_after1 (c : Dev nD) (t : Fin cfg0.N) : (fdat m 0 c).after 1 t = iblk m c 1 t := by dsimp only [fdat]
theorem fdat_after2 (c : Dev nD) (t : Fin cfg0.N) : (fdat m 0 c).after 2 t = iblk m c 2 t := by dsimp only [fdat]
theorem fdat_before0 (c : Dev nD) (t : Fin cfg0.N) (d) : (fdat m 0 c).before 0 t d = iblk m c 0 t :=
  before0_0_of m (fdat m 0 c) (fdat_A m c 0) (fdat_after0 m c) t d
theorem fdat_before1 (c : Dev nD) (t : Fin cfg0.N) (d) : (fdat m 0 c).before 1 t d = iblk m c 1 t :=
  before0_1_of m (fdat m 0 c) (fdat_A m c 1) (fdat_after1 m c) t d
theorem fdat_before2 (c : Dev nD) (t : Fin cfg0.N) (d) : (fdat m 0 c).before 2 t d = iblk m c 2 t :=
  before0_2_of m (fdat m 0 c) (fdat_A m c 2) (fdat_after2 m c) t d

/-- The result's window, of which the frame says nothing. -/
def forget : Fin cfg0.W → Bool := fun w => w.val == 3

/-- The body table's row at a point is the kernel's body there. -/
theorem row (t : Fin cfg0.N) : defs₀ (F := F) .tc cfg0.body (cfg0.bodyArgs t (cfg0.slots t)) = bodyAt0 t := by
  unfold defs₀; rw [Defs.onTc_tc]

/-- The body at a point: every block and scratch buffer taken out, the run applied, everything put back. -/
theorem frameBody (c : Dev nD) (t : Fin cfg0.N) :
    iprop(Pipeline.ΦA spec0 c ∗ (fdat m 0 c).owesAt () t.castSucc
      ∗ (∃ d, owns (c : Thread nD τ) (st0_0 t) fullShare ((fdat m 0 c).before 0 t d))
      ∗ (∃ d, owns (c : Thread nD τ) (st0_1 t) fullShare ((fdat m 0 c).before 1 t d))
      ∗ (∃ d, owns (c : Thread nD τ) (st0_2 t) fullShare ((fdat m 0 c).before 2 t d))
      ∗ (∃ X, owns (c : Thread nD τ) (st0_3 t) fullShare X))
    ⊢ wp frame (wpE (defs₀ (F := F)) Variants.none (c : Thread nD τ) none) Set.univ (bodyAt0 t) (fun _ =>
      iprop(Pipeline.ΦA spec0 c ∗ (fdat m 0 c).owesAt () t.castSucc
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ (∃ X, owns (c : Thread nD τ) (st0_3 t) fullShare X))) := by
  simp only [fdat_before0, fdat_before1, fdat_before2]
  unfold Pipeline.ΦA; rw [scopedRest0_eq]
  unfold owns bodyAt0
  iintro ⟨⟨⟨⟨%f7, H7⟩, ⟨%f8, H8⟩, ⟨%f9, H9⟩, ⟨%f10, H10⟩, ⟨%f11, H11⟩⟩, Hp⟩, Ho, ⟨%d0, %f3, %h3, H3⟩, ⟨%d1, %f4, %h4, H4⟩, ⟨%d2, %f5, %h5, H5⟩, ⟨%X, %f6, %h6, H6⟩⟩
  iapply (wp_wand_r Idealize.ShloMosaic.frame (wpE (defs₀ (F := F)) Variants.none (c : Thread nD τ) none) Set.univ)
  isplitl [H3 H4 H5 H6 H7 H8 H9 H10 H11]
  · iapply ((kernelRun c (grid0.coords t) _ _ _ _ _ _ _ _ (Memref.whole cc0_scratch0) _ (Memref.whole cc0_scratch1) _
      (Memref.whole cc0_scratch2) _ (Memref.whole cc0_scratch3) _ (Memref.whole cc0_scratch4) _ f3 f4 f5 f6 f7 f8 f9 f10 f11).2 Set.univ)
    simp only [at_, Memref.view_whole, View.set_whole]
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · simp only [at_, Memref.view_whole, View.set_whole]
    iintro %_ ⟨H3, H4, H5, H6, H7, H8, H9, H10, H11⟩
    isplitl [H7 H8 H9 H10 H11 Hp]
    · isplitr [Hp]
      · isplitl [H7]; · iexact H7
        isplitl [H8]; · iexact H8
        isplitl [H9]; · iexact H9
        isplitl [H10]; · iexact H10
        iexact H11
      iexact Hp
    isplitl [Ho]; · iexact Ho
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    iexists _; iexists _; isplitr; swap; (· iexact H6); ipureintro; rfl

theorem frameObligation (c : Dev nD) : BodyObligation (fdat (F := F) m 0 c) (defs₀ (F := F)) Variants.none () Set.univ forget := fun t => by
  rw [bigSep_W0, bigSep_W0, row]
  exact frameBody m c t

set_option backward.isDefEq.respectTransparency.types false in
/-- The launch: it terminates with every argument as launched and every semaphore counter at zero. -/
theorem frameRun : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget cfgs (fdat m) (0 : Fin 1) launch0 defs₀ Variants.none forget m g main
    (hbody := fun c => (frameObligation m c).loose) (hshare := fun c => (fdat m 0 c).share_full fun _ => rfl)
    (howed := fun _ _ => rfl) (V := V m) (hmain := hmain m Variants.none) (hA := fdat_A m) (hΦ := fun _ _ => rfl)
    (Q' := _) (hQ' := fun r h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c)⟩, h.2⟩)

end Cert.Proof.Att

end
-- ==== Proof.Frames.lean ====
/-
  The frames of the three programs and the one named constant: each program runs, leaves its argument arrays as they
  were and every semaphore counter at zero.
-/
module

public import proofs.«01_k».proof.Defs
public import proofs.«01_k».proof.Proof.FrameRun
public import proofs.«01_k».proof.Proof.FrameRunK
public import proofs.«01_k».proof.Proof.Gen.ReferenceIdeal
public import proofs.«01_k».proof.Proof.Gen.ReferenceIdeal.Run

@[expose] public section

noncomputable section

namespace Cert.Proof

open Idealize.ShloMosaic Idealize.SL.Sem

/-- The attention call as printed. -/
theorem kernel_frame : Cert.quiescent_Kernel (hKernel := Cert.Kernel.Gen.facts) :=
  fun m g _ => Cert.Proof.AttK.frameRun m g

/-- The attention call with its mask value named. -/
theorem ideal_frame : Cert.quiescent_KernelIdeal (hKernelIdeal := Cert.KernelIdeal.Gen.facts) :=
  fun m g _ => Cert.Proof.Att.frameRun m g

/-- The reference: no operation writes an argument array, and there are no semaphores. -/
theorem ref_frame : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

/-- The mask's value -1e30 read as minus infinity. -/
theorem mask_named : Cert.preserves_Kernel_KernelIdeal :=
  IdealRules.named_const.statement Cert.KernelIdeal.κ "mask" .f32 0xF149F2CA#32 ⊥ rfl

end Cert.Proof

end
-- ==== Proof.Slab.lean ====
/-
  Loads from a buffer of four slabs after stores of whole slabs or of column groups of 128: the slab just stored, a
  slab the store misses, a column group of a stored slab, and a slab stored as four column groups.
-/
module

public import proofs.«01_k».proof.Proof.Gen.KernelIdeal
public import Idealize.ShloMosaic.Lib.WritesUnit
public import Idealize.ShloMosaic.Lib.VecWindow

@[expose] public section

set_option maxRecDepth 16384

noncomputable section

namespace Cert.Proof.Att

open Cert.KernelIdeal
open Idealize.ShloMosaic Idealize.ShloMosaic.View

variable {Val : EltTy → Type} {sig : RefSig} {κ : Kind} {sp : Space}

section Any

variable {s : Shape} {e : EltTy} (v : View sig κ sp s e) (f : v.ty.Contents Val)

/-- Where a unit rectangle's load places an index. -/
theorem unit_idx {off size : Fin s.rank → ℕ} (inb : ∀ a, off a + size a ≤ s.size a) (x : (Rect.unit off size inb).shape.Idx)
    (a : Fin s.rank) : ((Rect.unit off size inb).toLoadRect.idx x a).val = off a + (x a).val := by
  show off a + 1 * (x a).val = _
  rw [Nat.one_mul]

/-- A load of what was stored last, at the same place. -/
theorem ld_hit {off size : Fin s.rank → ℕ} (inb inb' : ∀ a, off a + size a ≤ s.size a)
    (w : (Rect.unit off size inb).shape.Idx → Val e) (L : List (Piece Val s e)) :
    v.readAt Val (Rect.unit off size inb').toLoadRect (v.writes Val f (⟨Rect.unit off size inb, w⟩ :: L)) = w := by
  funext x
  rw [readAt_apply]
  exact read_writes_cons_unit_of_mem v f inb w L _ x rfl fun a => unit_idx inb' x a

/-- A load apart, on some axis, from what was stored last. -/
theorem ld_miss {off size off' size' : Fin s.rank → ℕ} (inb : ∀ a, off a + size a ≤ s.size a) (inb' : ∀ a, off' a + size' a ≤ s.size a)
    (w : (Rect.unit off size inb).shape.Idx → Val e) (L : List (Piece Val s e)) (a : Fin s.rank)
    (h : off' a + size' a ≤ off a ∨ off a + size a ≤ off' a) :
    v.readAt Val (Rect.unit off' size' inb').toLoadRect (v.writes Val f (⟨Rect.unit off size inb, w⟩ :: L))
      = v.readAt Val (Rect.unit off' size' inb').toLoadRect (v.writes Val f L) := by
  funext x
  rw [readAt_apply, readAt_apply]
  have hx : (x a).val < size' a := (x a).isLt
  refine read_writes_cons_unit_of_not_mem v f inb w L _ rfl a ?_
  rw [unit_idx]; omega

end Any

section Slabs

variable {e : EltTy}

/-- Slabs of a `4 × 512 × 128` buffer: one that the last store misses. -/
theorem ld128_miss (v : View sig κ sp S4x512x128 e) (f : v.ty.Contents Val) (a b : ℕ)
    (inb : ∀ x, (![b, 0, 0] : Fin 3 → ℕ) x + (![1, 512, 128] : Fin 3 → ℕ) x ≤ S4x512x128.size x)
    (inb' : ∀ x, (![a, 0, 0] : Fin 3 → ℕ) x + (![1, 512, 128] : Fin 3 → ℕ) x ≤ S4x512x128.size x)
    (w : S1x512x128.Idx → Val e) (L : List (Piece Val S4x512x128 e)) (h : a ≠ b) :
    v.readAt Val (Rect.unit (s := S4x512x128) ![a, 0, 0] ![1, 512, 128] inb').toLoadRect (v.writes Val f (⟨Rect.unit (s := S4x512x128) ![b, 0, 0] ![1, 512, 128] inb, w⟩ :: L))
      = v.readAt Val (Rect.unit (s := S4x512x128) ![a, 0, 0] ![1, 512, 128] inb').toLoadRect (v.writes Val f L) :=
  ld_miss v f inb inb' w L 0 (by show a + 1 ≤ b ∨ b + 1 ≤ a; omega)

/-- A column group of a `4 × 512 × 512` buffer, apart in the slab from the last store of a whole slab. -/
theorem ld512_miss (v : View sig κ sp S4x512x512 e) (f : v.ty.Contents Val) (a b j : ℕ)
    (inb : ∀ x, (![b, 0, 0] : Fin 3 → ℕ) x + (![1, 512, 512] : Fin 3 → ℕ) x ≤ S4x512x512.size x)
    (inb' : ∀ x, (![a, 0, j] : Fin 3 → ℕ) x + (![1, 512, 128] : Fin 3 → ℕ) x ≤ S4x512x512.size x)
    (w : S1x512x512.Idx → Val e) (L : List (Piece Val S4x512x512 e)) (h : a ≠ b) :
    v.readAt Val (Rect.unit (s := S4x512x512) ![a, 0, j] ![1, 512, 128] inb').toLoadRect (v.writes Val f (⟨Rect.unit (s := S4x512x512) ![b, 0, 0] ![1, 512, 512] inb, w⟩ :: L))
      = v.readAt Val (Rect.unit (s := S4x512x512) ![a, 0, j] ![1, 512, 128] inb').toLoadRect (v.writes Val f L) :=
  ld_miss v f inb inb' w L 0 (by show a + 1 ≤ b ∨ b + 1 ≤ a; omega)

/-- Columns `j, …, j + 127` of a slab of 512. -/
def colsAt (j : ℕ) (hj : j + 128 ≤ 512) (w : S1x512x512.Idx → Val e) : S1x512x128.Idx → Val e :=
  fun x => w (fun a => match a with
    | ⟨0, _⟩ => ⟨(x 0).val, (x 0).isLt⟩
    | ⟨1, _⟩ => ⟨(x 1).val, (x 1).isLt⟩
    | ⟨2, _⟩ => ⟨j + (x 2).val, by have : (x 2).val < 128 := (x 2).isLt; show _ < 512; omega⟩)

/-- A column group of the slab stored last. -/
theorem ld512_cols (v : View sig κ sp S4x512x512 e) (f : v.ty.Contents Val) (a j : ℕ) (hj : j + 128 ≤ 512)
    (inb : ∀ x, (![a, 0, 0] : Fin 3 → ℕ) x + (![1, 512, 512] : Fin 3 → ℕ) x ≤ S4x512x512.size x)
    (inb' : ∀ x, (![a, 0, j] : Fin 3 → ℕ) x + (![1, 512, 128] : Fin 3 → ℕ) x ≤ S4x512x512.size x)
    (w : S1x512x512.Idx → Val e) (L : List (Piece Val S4x512x512 e)) :
    v.readAt Val (Rect.unit (s := S4x512x512) ![a, 0, j] ![1, 512, 128] inb').toLoadRect (v.writes Val f (⟨Rect.unit (s := S4x512x512) ![a, 0, 0] ![1, 512, 512] inb, w⟩ :: L))
      = colsAt j hj w := by
  funext x
  rw [readAt_apply]
  refine read_writes_cons_unit_of_mem v f inb w L _ _ rfl fun b => ?_
  rw [unit_idx]
  match b with
  | ⟨0, _⟩ => show a + _ = a + _; rfl
  | ⟨1, _⟩ => rfl
  | ⟨2, _⟩ => show j + (x 2).val = 0 + (j + (x 2).val); omega

/-- A slab of 512 columns from its four groups of 128. -/
def joinCols (w0 w1 w2 w3 : S1x512x128.Idx → Val e) : S1x512x512.Idx → Val e := fun x =>
  let y : S1x512x128.Idx := fun a => match a with
    | ⟨0, _⟩ => ⟨(x 0).val, (x 0).isLt⟩
    | ⟨1, _⟩ => ⟨(x 1).val, (x 1).isLt⟩
    | ⟨2, _⟩ => ⟨(x 2).val % 128, Nat.mod_lt _ (by decide)⟩
  if (x 2).val < 128 then w0 y else if (x 2).val < 256 then w1 y else if (x 2).val < 384 then w2 y else w3 y

/-- A slab apart from a column group stored last. -/
theorem ldjoin_miss (v : View sig κ sp S4x512x512 e) (f : v.ty.Contents Val) (a b j : ℕ)
    (inb : ∀ x, (![b, 0, j] : Fin 3 → ℕ) x + (![1, 512, 128] : Fin 3 → ℕ) x ≤ S4x512x512.size x)
    (inb' : ∀ x, (![a, 0, 0] : Fin 3 → ℕ) x + (![1, 512, 512] : Fin 3 → ℕ) x ≤ S4x512x512.size x)
    (w : S1x512x128.Idx → Val e) (L : List (Piece Val S4x512x512 e)) (h : a ≠ b) :
    v.readAt Val (Rect.unit (s := S4x512x512) ![a, 0, 0] ![1, 512, 512] inb').toLoadRect (v.writes Val f (⟨Rect.unit (s := S4x512x512) ![b, 0, j] ![1, 512, 128] inb, w⟩ :: L))
      = v.readAt Val (Rect.unit (s := S4x512x512) ![a, 0, 0] ![1, 512, 512] inb').toLoadRect (v.writes Val f L) :=
  ld_miss v f inb inb' w L 0 (by show a + 1 ≤ b ∨ b + 1 ≤ a; omega)

/-- A slab just stored as four column groups. -/
theorem ldjoin (v : View sig κ sp S4x512x512 e) (f : v.ty.Contents Val) (a : ℕ)
    (i0 : ∀ x, (![a, 0, 0] : Fin 3 → ℕ) x + (![1, 512, 128] : Fin 3 → ℕ) x ≤ S4x512x512.size x)
    (i1 : ∀ x, (![a, 0, 128] : Fin 3 → ℕ) x + (![1, 512, 128] : Fin 3 → ℕ) x ≤ S4x512x512.size x)
    (i2 : ∀ x, (![a, 0, 256] : Fin 3 → ℕ) x + (![1, 512, 128] : Fin 3 → ℕ) x ≤ S4x512x512.size x)
    (i3 : ∀ x, (![a, 0, 384] : Fin 3 → ℕ) x + (![1, 512, 128] : Fin 3 → ℕ) x ≤ S4x512x512.size x)
    (inb' : ∀ x, (![a, 0, 0] : Fin 3 → ℕ) x + (![1, 512, 512] : Fin 3 → ℕ) x ≤ S4x512x512.size x)
    (w0 w1 w2 w3 : S1x512x128.Idx → Val e) (L : List (Piece Val S4x512x512 e)) :
    v.readAt Val (Rect.unit (s := S4x512x512) ![a, 0, 0] ![1, 512, 512] inb').toLoadRect
        (v.writes Val f (⟨Rect.unit (s := S4x512x512) ![a, 0, 384] ![1, 512, 128] i3, w3⟩ :: ⟨Rect.unit (s := S4x512x512) ![a, 0, 256] ![1, 512, 128] i2, w2⟩
          :: ⟨Rect.unit (s := S4x512x512) ![a, 0, 128] ![1, 512, 128] i1, w1⟩ :: ⟨Rect.unit (s := S4x512x512) ![a, 0, 0] ![1, 512, 128] i0, w0⟩ :: L))
      = joinCols w0 w1 w2 w3 := by
  funext x
  have hx0 : (x 0).val < 1 := (x 0).isLt
  have hx : (x 2).val < 512 := (x 2).isLt
  have hi (b : Fin 3) : ((Rect.unit (s := S4x512x512) ![a, 0, 0] ![1, 512, 512] inb').toLoadRect.idx x b).val = (![a, 0, 0] : Fin 3 → ℕ) b + (x b).val := unit_idx inb' x b
  have h2 := hi 2
  rw [show (![a, 0, 0] : Fin 3 → ℕ) 2 = 0 from rfl, Nat.zero_add] at h2
  rw [readAt_apply]
  unfold joinCols
  have coords (j : ℕ) (hj : (x 2).val = j + (x 2).val % 128) (b : Fin 3) :
      ((Rect.unit (s := S4x512x512) ![a, 0, 0] ![1, 512, 512] inb').toLoadRect.idx x b).val = (![a, 0, j] : Fin 3 → ℕ) b
        + ((fun a => match a with
    | ⟨0, _⟩ => ⟨(x 0).val, (x 0).isLt⟩
    | ⟨1, _⟩ => ⟨(x 1).val, (x 1).isLt⟩
    | ⟨2, _⟩ => ⟨(x 2).val % 128, Nat.mod_lt _ (by decide)⟩ : S1x512x128.Idx) b).val := by
    rw [hi]
    match b with
    | ⟨0, _⟩ => rfl
    | ⟨1, _⟩ => rfl
    | ⟨2, _⟩ => show 0 + (x 2).val = j + (x 2).val % 128; omega
  by_cases c3 : 384 ≤ (x 2).val
  · rw [if_neg (by omega), if_neg (by omega), if_neg (by omega)]
    exact read_writes_cons_unit_of_mem v f i3 w3 _ _ _ rfl (coords 384 (by omega))
  rw [read_writes_cons_unit_of_not_mem v f i3 w3 _ _ rfl 2 (by left; rw [h2]; show _ < 384; omega)]
  by_cases c2 : 256 ≤ (x 2).val
  · rw [if_neg (by omega), if_neg (by omega), if_pos (by omega)]
    exact read_writes_cons_unit_of_mem v f i2 w2 _ _ _ rfl (coords 256 (by omega))
  rw [read_writes_cons_unit_of_not_mem v f i2 w2 _ _ rfl 2 (by left; rw [h2]; show _ < 256; omega)]
  by_cases c1 : 128 ≤ (x 2).val
  · rw [if_neg (by omega), if_pos (by omega)]
    exact read_writes_cons_unit_of_mem v f i1 w1 _ _ _ rfl (coords 128 (by omega))
  rw [read_writes_cons_unit_of_not_mem v f i1 w1 _ _ rfl 2 (by left; rw [h2]; show _ < 128; omega)]
  rw [if_pos (by omega)]
  exact read_writes_cons_unit_of_mem v f i0 w0 _ _ _ rfl (coords 0 (by omega))

end Slabs

end Cert.Proof.Att

end
-- ==== Proof.Spec.lean ====
/-
  One step of the attention kernel on one head, as operations on whole blocks: the scores, the running maximum, the
  factor the accumulator is scaled by, the weights, and the accumulator.
-/
module

public import proofs.«01_k».proof.Proof.Slab
public import proofs.«01_k».proof.Proof.Gen.KernelIdeal.Skeleton

@[expose] public section

set_option maxRecDepth 16384

noncomputable section

namespace Cert.Proof.Att

open Cert.KernelIdeal Cert.KernelIdeal.Gen
open Idealize.ShloMosaic Idealize.ShloMosaic.TcCoe

variable {F : FTy → Type} [FloatOps F] [Named F]

/-- The scores of 512 queries against 512 keys. -/
def scores (q k : Vec F S1x512x128 .bf16) : FVec F S512x512 .f32 :=
  matmul dot_S512x128_S512x128_S512x512_1_1_0_0_n_n none (shapeCast S512x128 q shapeCasts_S1x512x128_S512x128)
    (shapeCast S512x128 k shapeCasts_S1x512x128_S512x128) (constant S512x512 .f32 0x00000000#32)

/-- The new maximum of each row, along every lane. -/
def newMax (s : FVec F S512x512 .f32) (m : Vec F S1x512x128 .f32) : FVec F S512x128 .f32 :=
  maximumf (shapeCast S512x128 m shapeCasts_S1x512x128_S512x128)
    (broadcastTo S512x128 (shapeCast S512x1 (multiReduction .maximumf [1] S512 s 0xFF800000#32 reduces_S512x512_S512 (.inl rfl) rfl)
      shapeCasts_S512_S512x1) broadcasts_S512x1_S512x128)

def maxSlab (s : FVec F S512x512 .f32) (m : Vec F S1x512x128 .f32) : Vec F S1x512x128 .f32 :=
  shapeCast S1x512x128 (newMax s m) shapeCasts_S512x128_S1x512x128

/-- What the accumulator is scaled by. -/
def scaleSlab (s : FVec F S512x512 .f32) (m : Vec F S1x512x128 .f32) : Vec F S1x512x128 .f32 :=
  shapeCast S1x512x128 (exp2 (subf (shapeCast S512x128 m shapeCasts_S1x512x128_S512x128) (newMax s m))) shapeCasts_S512x128_S1x512x128

/-- The weights of 128 keys, from their scores and the rows' maxima. -/
def weights (m' : Vec F S1x512x128 .f32) (s : Vec F S1x512x128 .f32) : Vec F S1x512x128 .bf16 :=
  shapeCast S1x512x128 (truncf .bf16 (exp2 (subf (shapeCast S512x128 s shapeCasts_S1x512x128_S512x128)
    (shapeCast S512x128 m' shapeCasts_S1x512x128_S512x128))) bitsLt_bf16_f32) shapeCasts_S512x128_S1x512x128

/-- The weights of 512 keys. -/
def weightSlab (s : FVec F S512x512 .f32) (m : Vec F S1x512x128 .f32) : Vec F S1x512x512 .bf16 :=
  let w (j : ℕ) (hj : j + 128 ≤ 512) := weights (maxSlab s m) (colsAt (Val := Elt F) (e := .f32) j hj (shapeCast S1x512x512 s shapeCasts_S512x512_S1x512x512))
  joinCols (Val := Elt F) (e := .bf16) (w 0 (by decide)) (w 128 (by decide)) (w 256 (by decide)) (w 384 (by decide))

/-- The new accumulator. -/
def accum (al acc : Vec F S1x512x128 .f32) (p : Vec F S1x512x512 .bf16) (v : Vec F S1x512x128 .bf16) : Vec F S1x512x128 .f32 :=
  shapeCast S1x512x128 (addf (mulf (shapeCast S512x128 al shapeCasts_S1x512x128_S512x128) (shapeCast S512x128 acc shapeCasts_S1x512x128_S512x128))
    (matmul dot_S512x512_S512x128_S512x128_1_0_0_1_n_n none (shapeCast S512x512 p shapeCasts_S1x512x512_S512x512)
      (shapeCast S512x128 v shapeCasts_S1x512x128_S512x128) (constant S512x128 .f32 0x00000000#32))) shapeCasts_S512x128_S1x512x128

def accSlab (s : FVec F S512x512 .f32) (m acc : Vec F S1x512x128 .f32) (v : Vec F S1x512x128 .bf16) : Vec F S1x512x128 .f32 :=
  accum (scaleSlab s m) acc (weightSlab s m) v

end Cert.Proof.Att

end
-- ==== Proof.Trip.lean ====
/-
  One trip of the kernel's loop over whole key blocks: each head's slab of the running maximum and of the accumulator
  after the trip is one step of the head from its slabs before it.
-/
module

public import proofs.«01_k».proof.Proof.Spec
public import proofs.«01_k».proof.Proof.Body

@[expose] public section

set_option maxRecDepth 16384
set_option maxHeartbeats 4000000

noncomputable section

namespace Cert.Proof.Att

open Cert.KernelIdeal Cert.KernelIdeal.Gen
open Idealize.ShloMosaic Idealize.ShloMosaic.TcCoe Idealize.ShloMosaic.Tactic

variable {F : FTy → Type} [FloatOps F] [Named F]

/-- Head `h`'s columns of the query block, and of the key and value blocks of the trip. -/
abbrev slab128 (v : View sig .tc .vmem S4x512x128 .f32) (f : BufTy.Contents (Elt F) v.ty) (h : ℕ)
    (inb : ∀ a, (![h, 0, 0] : Fin 3 → Nat) a + S1x512x128.size a ≤ S4x512x128.size a) : Vec F S1x512x128 .f32 :=
  View.readAt (Elt F) v (Rect.unit (s := S4x512x128) ![h, 0, 0] S1x512x128.size inb).toLoadRect f
abbrev qcols (v : View sig .tc .vmem S1x512x512 .bf16) (f : BufTy.Contents (Elt F) v.ty) (o : Fin 3 → ℕ)
    (inb : ∀ a, o a + S1x512x128.size a ≤ S1x512x512.size a) : Vec F S1x512x128 .bf16 :=
  View.readAt (Elt F) v (Rect.unit (s := S1x512x512) o S1x512x128.size inb).toLoadRect f
abbrev kblock (v : View sig .tc .vmem S1x4096x512 .bf16) (f : BufTy.Contents (Elt F) v.ty) (o : Fin 3 → ℕ)
    (inb : ∀ a, o a + S1x512x128.size a ≤ S1x4096x512.size a) : Vec F S1x512x128 .bf16 :=
  View.readAt (Elt F) v (Rect.unit (s := S1x4096x512) o S1x512x128.size inb).toLoadRect f

section
variable (𝒱 : Variants) (c : Dev nD) (bd : Option 𝒱.V) (i : grid0.Coords)
    (arg3 : Memref sig .tc .vmem S1x512x512 .bf16) (harg3 : arg3.IsWhole)
    (arg4 : Memref sig .tc .vmem S1x4096x512 .bf16) (harg4 : arg4.IsWhole)
    (arg5 : Memref sig .tc .vmem S1x4096x512 .bf16) (harg5 : arg5.IsWhole)
    (arg6 : Memref sig .tc .vmem S512x256 .f32) (harg6 : arg6.IsWhole)
    (arg7 : Memref sig .tc .vmem S4x512x512 .f32) (harg7 : arg7.IsWhole)
    (arg8 : Memref sig .tc .vmem S4x512x512 .bf16) (harg8 : arg8.IsWhole)
    (arg9 : Memref sig .tc .vmem S4x512x128 .f32) (harg9 : arg9.IsWhole)
    (arg10 : Memref sig .tc .vmem S4x512x128 .f32) (harg10 : arg10.IsWhole)
    (arg11 : Memref sig .tc .vmem S4x512x128 .f32) (harg11 : arg11.IsWhole)
    (arg2 : BitVec 32) (v32 v33 : IVec S512x512 32) (c64 : BitVec 32) (v35 : IVec S512x512 32) (v37 : IVec S512x512 1)
    (X3 : Ct (F := F) arg3) (X4 : Ct (F := F) arg4) (X5 : Ct (F := F) arg5)
    (k : Fin (k0_t1_loop i).trips)
    (f7 : Ct (F := F) arg7) (f8 : Ct (F := F) arg8) (f9 : Ct (F := F) arg9) (f10 : Ct (F := F) arg10) (f11 : Ct (F := F) arg11)

theorem trip_max0 :
    slab128 arg9.view (arg9.view.writes (Elt F) f9 ((trip_k0_t1 (F := F) 𝒱 c bd i arg3 harg3 arg4 harg4 arg5 harg5 arg6 harg6 arg7 harg7 arg8 harg8 arg9 harg9
        arg10 harg10 arg11 harg11 arg2 v32 v33 c64 v35 v37 X3 X4 X5 k).2.2.1 f7 f8 f9 f10 f11)) 0 inb_S4x512x128_S1x512x128_0_0_0
    = maxSlab (scores (qcols arg3.view X3 ![0, 0, 0] inb_S1x512x512_S1x512x128_0_0_0) (kblock arg4.view X4 (k0_off1 i k) (k0_off1_inb i k))) (slab128 arg9.view f9 0 inb_S4x512x128_S1x512x128_0_0_0) := by
  unfold slab128 trip_k0_t1
  dsimp only
  sl_unfold_words
  simp only [View.readCov, ld_hit, ld128_miss, ld512_miss, ld512_cols, ldjoin, ldjoin_miss, ne_eq, Nat.reduceEqDiff, not_false_eq_true, OfNat.ofNat_ne_zero, OfNat.zero_ne_ofNat, OfNat.ofNat_ne_one, OfNat.one_ne_ofNat, one_ne_zero, zero_ne_one]
  repeat (first | rw [ld_hit] | (rw [ld512_cols (hj := ?_)]; swap; decide) | rw [ldjoin] | (rw [ld128_miss (h := ?_)]; swap; decide) | (rw [ld512_miss (h := ?_)]; swap; decide) | (rw [ldjoin_miss (h := ?_)]; swap; decide))
  rfl

theorem trip_acc0 :
    slab128 arg11.view (arg11.view.writes (Elt F) f11 ((trip_k0_t1 (F := F) 𝒱 c bd i arg3 harg3 arg4 harg4 arg5 harg5 arg6 harg6 arg7 harg7 arg8 harg8 arg9 harg9
        arg10 harg10 arg11 harg11 arg2 v32 v33 c64 v35 v37 X3 X4 X5 k).2.2.2.2.1 f7 f8 f9 f10 f11)) 0 inb_S4x512x128_S1x512x128_0_0_0
    = accSlab (scores (qcols arg3.view X3 ![0, 0, 0] inb_S1x512x512_S1x512x128_0_0_0) (kblock arg4.view X4 (k0_off1 i k) (k0_off1_inb i k))) (slab128 arg9.view f9 0 inb_S4x512x128_S1x512x128_0_0_0) (slab128 arg11.view f11 0 inb_S4x512x128_S1x512x128_0_0_0) (kblock arg5.view X5 (k0_off1 i k) (k0_off1_inb i k)) := by
  unfold slab128 trip_k0_t1
  dsimp only
  sl_unfold_words
  simp only [View.readCov, ld_hit, ld128_miss, ld512_miss, ld512_cols, ldjoin, ldjoin_miss, ne_eq, Nat.reduceEqDiff, not_false_eq_true, OfNat.ofNat_ne_zero, OfNat.zero_ne_ofNat, OfNat.ofNat_ne_one, OfNat.one_ne_ofNat, one_ne_zero, zero_ne_one]
  repeat (first | rw [ld_hit] | (rw [ld512_cols (hj := ?_)]; swap; decide) | rw [ldjoin] | (rw [ld128_miss (h := ?_)]; swap; decide) | (rw [ld512_miss (h := ?_)]; swap; decide) | (rw [ldjoin_miss (h := ?_)]; swap; decide))
  rfl

theorem trip_max1 :
    slab128 arg9.view (arg9.view.writes (Elt F) f9 ((trip_k0_t1 (F := F) 𝒱 c bd i arg3 harg3 arg4 harg4 arg5 harg5 arg6 harg6 arg7 harg7 arg8 harg8 arg9 harg9
        arg10 harg10 arg11 harg11 arg2 v32 v33 c64 v35 v37 X3 X4 X5 k).2.2.1 f7 f8 f9 f10 f11)) 1 inb_S4x512x128_S1x512x128_1_0_0
    = maxSlab (scores (qcols arg3.view X3 ![0, 0, 128] inb_S1x512x512_S1x512x128_0_0_128) (kblock arg4.view X4 (k0_off2 i k) (k0_off2_inb i k))) (slab128 arg9.view f9 1 inb_S4x512x128_S1x512x128_1_0_0) := by
  unfold slab128 trip_k0_t1
  dsimp only
  sl_unfold_words
  simp only [View.readCov, ld_hit, ld128_miss, ld512_miss, ld512_cols, ldjoin, ldjoin_miss, ne_eq, Nat.reduceEqDiff, not_false_eq_true, OfNat.ofNat_ne_zero, OfNat.zero_ne_ofNat, OfNat.ofNat_ne_one, OfNat.one_ne_ofNat, one_ne_zero, zero_ne_one]
  repeat (first | rw [ld_hit] | (rw [ld512_cols (hj := ?_)]; swap; decide) | rw [ldjoin] | (rw [ld128_miss (h := ?_)]; swap; decide) | (rw [ld512_miss (h := ?_)]; swap; decide) | (rw [ldjoin_miss (h := ?_)]; swap; decide))
  rfl

theorem trip_acc1 :
    slab128 arg11.view (arg11.view.writes (Elt F) f11 ((trip_k0_t1 (F := F) 𝒱 c bd i arg3 harg3 arg4 harg4 arg5 harg5 arg6 harg6 arg7 harg7 arg8 harg8 arg9 harg9
        arg10 harg10 arg11 harg11 arg2 v32 v33 c64 v35 v37 X3 X4 X5 k).2.2.2.2.1 f7 f8 f9 f10 f11)) 1 inb_S4x512x128_S1x512x128_1_0_0
    = accSlab (scores (qcols arg3.view X3 ![0, 0, 128] inb_S1x512x512_S1x512x128_0_0_128) (kblock arg4.view X4 (k0_off2 i k) (k0_off2_inb i k))) (slab128 arg9.view f9 1 inb_S4x512x128_S1x512x128_1_0_0) (slab128 arg11.view f11 1 inb_S4x512x128_S1x512x128_1_0_0) (kblock arg5.view X5 (k0_off2 i k) (k0_off2_inb i k)) := by
  unfold slab128 trip_k0_t1
  dsimp only
  sl_unfold_words
  simp only [View.readCov, ld_hit, ld128_miss, ld512_miss, ld512_cols, ldjoin, ldjoin_miss, ne_eq, Nat.reduceEqDiff, not_false_eq_true, OfNat.ofNat_ne_zero, OfNat.zero_ne_ofNat, OfNat.ofNat_ne_one, OfNat.one_ne_ofNat, one_ne_zero, zero_ne_one]
  repeat (first | rw [ld_hit] | (rw [ld512_cols (hj := ?_)]; swap; decide) | rw [ldjoin] | (rw [ld128_miss (h := ?_)]; swap; decide) | (rw [ld512_miss (h := ?_)]; swap; decide) | (rw [ldjoin_miss (h := ?_)]; swap; decide))
  rfl

theorem trip_max2 :
    slab128 arg9.view (arg9.view.writes (Elt F) f9 ((trip_k0_t1 (F := F) 𝒱 c bd i arg3 harg3 arg4 harg4 arg5 harg5 arg6 harg6 arg7 harg7 arg8 harg8 arg9 harg9
        arg10 harg10 arg11 harg11 arg2 v32 v33 c64 v35 v37 X3 X4 X5 k).2.2.1 f7 f8 f9 f10 f11)) 2 inb_S4x512x128_S1x512x128_2_0_0
    = maxSlab (scores (qcols arg3.view X3 ![0, 0, 256] inb_S1x512x512_S1x512x128_0_0_256) (kblock arg4.view X4 (k0_off3 i k) (k0_off3_inb i k))) (slab128 arg9.view f9 2 inb_S4x512x128_S1x512x128_2_0_0) := by
  unfold slab128 trip_k0_t1
  dsimp only
  sl_unfold_words
  simp only [View.readCov, ld_hit, ld128_miss, ld512_miss, ld512_cols, ldjoin, ldjoin_miss, ne_eq, Nat.reduceEqDiff, not_false_eq_true, OfNat.ofNat_ne_zero, OfNat.zero_ne_ofNat, OfNat.ofNat_ne_one, OfNat.one_ne_ofNat, one_ne_zero, zero_ne_one]
  repeat (first | rw [ld_hit] | (rw [ld512_cols (hj := ?_)]; swap; decide) | rw [ldjoin] | (rw [ld128_miss (h := ?_)]; swap; decide) | (rw [ld512_miss (h := ?_)]; swap; decide) | (rw [ldjoin_miss (h := ?_)]; swap; decide))
  rfl

theorem trip_acc2 :
    slab128 arg11.view (arg11.view.writes (Elt F) f11 ((trip_k0_t1 (F := F) 𝒱 c bd i arg3 harg3 arg4 harg4 arg5 harg5 arg6 harg6 arg7 harg7 arg8 harg8 arg9 harg9
        arg10 harg10 arg11 harg11 arg2 v32 v33 c64 v35 v37 X3 X4 X5 k).2.2.2.2.1 f7 f8 f9 f10 f11)) 2 inb_S4x512x128_S1x512x128_2_0_0
    = accSlab (scores (qcols arg3.view X3 ![0, 0, 256] inb_S1x512x512_S1x512x128_0_0_256) (kblock arg4.view X4 (k0_off3 i k) (k0_off3_inb i k))) (slab128 arg9.view f9 2 inb_S4x512x128_S1x512x128_2_0_0) (slab128 arg11.view f11 2 inb_S4x512x128_S1x512x128_2_0_0) (kblock arg5.view X5 (k0_off3 i k) (k0_off3_inb i k)) := by
  unfold slab128 trip_k0_t1
  dsimp only
  sl_unfold_words
  simp only [View.readCov, ld_hit, ld128_miss, ld512_miss, ld512_cols, ldjoin, ldjoin_miss, ne_eq, Nat.reduceEqDiff, not_false_eq_true, OfNat.ofNat_ne_zero, OfNat.zero_ne_ofNat, OfNat.ofNat_ne_one, OfNat.one_ne_ofNat, one_ne_zero, zero_ne_one]
  repeat (first | rw [ld_hit] | (rw [ld512_cols (hj := ?_)]; swap; decide) | rw [ldjoin] | (rw [ld128_miss (h := ?_)]; swap; decide) | (rw [ld512_miss (h := ?_)]; swap; decide) | (rw [ldjoin_miss (h := ?_)]; swap; decide))
  rfl

theorem trip_max3 :
    slab128 arg9.view (arg9.view.writes (Elt F) f9 ((trip_k0_t1 (F := F) 𝒱 c bd i arg3 harg3 arg4 harg4 arg5 harg5 arg6 harg6 arg7 harg7 arg8 harg8 arg9 harg9
        arg10 harg10 arg11 harg11 arg2 v32 v33 c64 v35 v37 X3 X4 X5 k).2.2.1 f7 f8 f9 f10 f11)) 3 inb_S4x512x128_S1x512x128_3_0_0
    = maxSlab (scores (qcols arg3.view X3 ![0, 0, 384] inb_S1x512x512_S1x512x128_0_0_384) (kblock arg4.view X4 (k0_off4 i k) (k0_off4_inb i k))) (slab128 arg9.view f9 3 inb_S4x512x128_S1x512x128_3_0_0) := by
  unfold slab128 trip_k0_t1
  dsimp only
  sl_unfold_words
  simp only [View.readCov, ld_hit, ld128_miss, ld512_miss, ld512_cols, ldjoin, ldjoin_miss, ne_eq, Nat.reduceEqDiff, not_false_eq_true, OfNat.ofNat_ne_zero, OfNat.zero_ne_ofNat, OfNat.ofNat_ne_one, OfNat.one_ne_ofNat, one_ne_zero, zero_ne_one]
  repeat (first | rw [ld_hit] | (rw [ld512_cols (hj := ?_)]; swap; decide) | rw [ldjoin] | (rw [ld128_miss (h := ?_)]; swap; decide) | (rw [ld512_miss (h := ?_)]; swap; decide) | (rw [ldjoin_miss (h := ?_)]; swap; decide))
  rfl

theorem trip_acc3 :
    slab128 arg11.view (arg11.view.writes (Elt F) f11 ((trip_k0_t1 (F := F) 𝒱 c bd i arg3 harg3 arg4 harg4 arg5 harg5 arg6 harg6 arg7 harg7 arg8 harg8 arg9 harg9
        arg10 harg10 arg11 harg11 arg2 v32 v33 c64 v35 v37 X3 X4 X5 k).2.2.2.2.1 f7 f8 f9 f10 f11)) 3 inb_S4x512x128_S1x512x128_3_0_0
    = accSlab (scores (qcols arg3.view X3 ![0, 0, 384] inb_S1x512x512_S1x512x128_0_0_384) (kblock arg4.view X4 (k0_off4 i k) (k0_off4_inb i k))) (slab128 arg9.view f9 3 inb_S4x512x128_S1x512x128_3_0_0) (slab128 arg11.view f11 3 inb_S4x512x128_S1x512x128_3_0_0) (kblock arg5.view X5 (k0_off4 i k) (k0_off4_inb i k)) := by
  unfold slab128 trip_k0_t1
  dsimp only
  sl_unfold_words
  simp only [View.readCov, ld_hit, ld128_miss, ld512_miss, ld512_cols, ldjoin, ldjoin_miss, ne_eq, Nat.reduceEqDiff, not_false_eq_true, OfNat.ofNat_ne_zero, OfNat.zero_ne_ofNat, OfNat.ofNat_ne_one, OfNat.one_ne_ofNat, one_ne_zero, zero_ne_one]
  repeat (first | rw [ld_hit] | (rw [ld512_cols (hj := ?_)]; swap; decide) | rw [ldjoin] | (rw [ld128_miss (h := ?_)]; swap; decide) | (rw [ld512_miss (h := ?_)]; swap; decide) | (rw [ldjoin_miss (h := ?_)]; swap; decide))
  rfl

end

end Cert.Proof.Att

end
-- ==== Proof.Loop.lean ====
/-
  The kernel's loop over whole key blocks: each head's slabs of the running maximum and of the accumulator after `k`
  trips are the head's `k` steps from what they held before the loop; and the loop's exit, at those slabs.
-/
module

public import proofs.«01_k».proof.Proof.Trip

@[expose] public section

set_option maxRecDepth 16384
set_option maxHeartbeats 4000000

noncomputable section

namespace Cert.Proof.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Head `h`'s columns of the query block. -/
def qOf (Q : Vec F S1x512x512 .bf16) (h : ℕ) : Vec F S1x512x128 .bf16 := fun x => Q (fun a => match a with
    | ⟨0, _⟩ => ⟨(x 0).val, (x 0).isLt⟩
    | ⟨1, _⟩ => ⟨(x 1).val, (x 1).isLt⟩
    | ⟨2, _⟩ => ⟨(128 * h + (x 2).val) % 512, Nat.mod_lt _ (by decide)⟩)

/-- Head `h`'s columns of key block `k`. -/
def blkOf (K : Vec F S1x4096x512 .bf16) (k h : ℕ) : Vec F S1x512x128 .bf16 := fun x => K (fun a => match a with
    | ⟨0, _⟩ => ⟨(x 0).val, (x 0).isLt⟩
    | ⟨1, _⟩ => ⟨(512 * k + (x 1).val) % 4096, Nat.mod_lt _ (by decide)⟩
    | ⟨2, _⟩ => ⟨(128 * h + (x 2).val) % 512, Nat.mod_lt _ (by decide)⟩)

theorem qcols_eq (v : View sig .tc .vmem S1x512x512 .bf16) (f : BufTy.Contents (Elt F) v.ty) (o : Fin 3 → ℕ)
    (inb : ∀ a, o a + S1x512x128.size a ≤ S1x512x512.size a) (h : ℕ) (ho : o = ![0, 0, 128 * h]) (hh : h < 4) :
    qcols v f o inb = qOf (v.read (Elt F) f) h := by
  subst ho
  funext x
  rw [qcols, View.readAt_apply]
  unfold qOf
  congr 1
  funext a
  apply Fin.ext
  rw [unit_idx]
  have h2 : (x 2).val < 128 := (x 2).isLt
  match a with
  | ⟨0, _⟩ => show 0 + (x 0).val = (x 0).val; omega
  | ⟨1, _⟩ => show 0 + (x 1).val = (x 1).val; omega
  | ⟨2, _⟩ => show 128 * h + (x 2).val = (128 * h + (x 2).val) % 512; omega

theorem kblock_eq (v : View sig .tc .vmem S1x4096x512 .bf16) (f : BufTy.Contents (Elt F) v.ty) (o : Fin 3 → ℕ)
    (inb : ∀ a, o a + S1x512x128.size a ≤ S1x4096x512.size a) (k h : ℕ) (ho : o = ![0, 512 * k, 128 * h]) (hk : k < 8) (hh : h < 4) :
    kblock v f o inb = blkOf (v.read (Elt F) f) k h := by
  subst ho
  funext x
  rw [kblock, View.readAt_apply]
  unfold blkOf
  congr 1
  funext a
  apply Fin.ext
  rw [unit_idx]
  have h2 : (x 2).val < 128 := (x 2).isLt
  have h1 : (x 1).val < 512 := (x 1).isLt
  match a with
  | ⟨0, _⟩ => show 0 + (x 0).val = (x 0).val; omega
  | ⟨1, _⟩ => show 512 * k + (x 1).val = (512 * k + (x 1).val) % 4096; omega
  | ⟨2, _⟩ => show 128 * h + (x 2).val = (128 * h + (x 2).val) % 512; omega

/-- A head's running maximum after `k` whole key blocks. -/
def stMax (Q : Vec F S1x512x512 .bf16) (K : Vec F S1x4096x512 .bf16) (h : ℕ) (m0 : Vec F S1x512x128 .f32) : ℕ → Vec F S1x512x128 .f32
  | 0 => m0
  | k + 1 => maxSlab (scores (qOf Q h) (blkOf K k h)) (stMax Q K h m0 k)

/-- A head's accumulator after `k` whole key blocks. -/
def stAcc (Q : Vec F S1x512x512 .bf16) (K V : Vec F S1x4096x512 .bf16) (h : ℕ) (m0 a0 : Vec F S1x512x128 .f32) : ℕ → Vec F S1x512x128 .f32
  | 0 => a0
  | k + 1 => accSlab (scores (qOf Q h) (blkOf K k h)) (stMax Q K h m0 k) (stAcc Q K V h m0 a0 k) (blkOf V k h)

theorem inb128 (h : Fin 4) : ∀ a, (![h.val, 0, 0] : Fin 3 → Nat) a + S1x512x128.size a ≤ S4x512x128.size a := by
  decide +revert

theorem trips_eq : ∀ i : grid0.Coords, (k0_t1_loop i).trips = (i 2).val := by decide +kernel
theorem trips2_eq : ∀ i : grid0.Coords, (k0_t2_loop i).trips = 0 := by decide +kernel

section
variable (𝒱 : Variants) (c : Dev nD) (bd : Option 𝒱.V) (i : grid0.Coords)
    (arg3 : Memref sig .tc .vmem S1x512x512 .bf16) (harg3 : arg3.IsWhole)
    (arg4 : Memref sig .tc .vmem S1x4096x512 .bf16) (harg4 : arg4.IsWhole)
    (arg5 : Memref sig .tc .vmem S1x4096x512 .bf16) (harg5 : arg5.IsWhole)
    (arg6 : Memref sig .tc .vmem S512x256 .f32) (harg6 : arg6.IsWhole)
    (arg7 : Memref sig .tc .vmem S4x512x512 .f32) (harg7 : arg7.IsWhole)
    (arg8 : Memref sig .tc .vmem S4x512x512 .bf16) (harg8 : arg8.IsWhole)
    (arg9 : Memref sig .tc .vmem S4x512x128 .f32) (harg9 : arg9.IsWhole)
    (arg10 : Memref sig .tc .vmem S4x512x128 .f32) (harg10 : arg10.IsWhole)
    (arg11 : Memref sig .tc .vmem S4x512x128 .f32) (harg11 : arg11.IsWhole)
    (arg2 : BitVec 32) (v32 v33 : IVec S512x512 32) (c64 : BitVec 32) (v35 : IVec S512x512 32) (v37 : IVec S512x512 1)
    (X3 : Ct (F := F) arg3) (X4 : Ct (F := F) arg4) (X5 : Ct (F := F) arg5)
    (f7 : Ct (F := F) arg7) (f8 : Ct (F := F) arg8) (f9 : Ct (F := F) arg9) (f10 : Ct (F := F) arg10) (f11 : Ct (F := F) arg11)

/-- What the two slabs of head `h` hold after `k` trips. -/
def MaxAt (h : Fin 4) (k : ℕ) (g9 : Ct (F := F) arg9) : Prop :=
  slab128 arg9.view g9 h.val (inb128 h) = stMax (arg3.view.read (Elt F) X3) (arg4.view.read (Elt F) X4) h.val (slab128 arg9.view f9 h.val (inb128 h)) k
def AccAt (h : Fin 4) (k : ℕ) (g11 : Ct (F := F) arg11) : Prop :=
  slab128 arg11.view g11 h.val (inb128 h) = stAcc (arg3.view.read (Elt F) X3) (arg4.view.read (Elt F) X4) (arg5.view.read (Elt F) X5) h.val
    (slab128 arg9.view f9 h.val (inb128 h)) (slab128 arg11.view f11 h.val (inb128 h)) k

theorem loop_slabs (k : ℕ) (hk : k ≤ (k0_t1_loop i).trips) (h : Fin 4) :
    MaxAt arg3 arg4 arg9 X3 X4 f9 h k (arg9.view.writes (Elt F) f9 (pb_k0_t1 (F := F) 𝒱 c bd i arg3 harg3 arg4 harg4 arg5 harg5 arg6 harg6 arg7 harg7
        arg8 harg8 arg9 harg9 arg10 harg10 arg11 harg11 arg2 v32 v33 c64 v35 v37 X3 X4 X5 f7 f8 f9 f10 f11 k).2.2.1)
    ∧ AccAt arg3 arg4 arg5 arg9 arg11 X3 X4 X5 f9 f11 h k (arg11.view.writes (Elt F) f11 (pb_k0_t1 (F := F) 𝒱 c bd i arg3 harg3 arg4 harg4 arg5 harg5 arg6 harg6 arg7 harg7
        arg8 harg8 arg9 harg9 arg10 harg10 arg11 harg11 arg2 v32 v33 c64 v35 v37 X3 X4 X5 f7 f8 f9 f10 f11 k).2.2.2.2) := by
  induction k with
  | zero => exact ⟨rfl, rfl⟩
  | succ k ih =>
    obtain ⟨ih9, ih11⟩ := ih (by omega)
    have hk8 : k < 8 := by have := trips_eq i; have : (i 2).val < 8 := (i 2).isLt; omega
    have hs := pb_k0_t1_succ (F := F) 𝒱 c bd i arg3 harg3 arg4 harg4 arg5 harg5 arg6 harg6 arg7 harg7
        arg8 harg8 arg9 harg9 arg10 harg10 arg11 harg11 arg2 v32 v33 c64 v35 v37 X3 X4 X5 f7 f8 f9 f10 f11 ⟨k, by omega⟩
    dsimp only at hs
    rw [hs]
    dsimp only [tripL_k0_t1]
    unfold MaxAt at ih9
    unfold AccAt at ih11
    unfold MaxAt AccAt
    rw [View.writes_append, View.writes_append]
    match h with
    | 0 =>
      have e1 := qcols_eq (F := F) arg3.view X3 ![0, 0, 0] inb_S1x512x512_S1x512x128_0_0_0 0 rfl (by decide)
      have e2 := kblock_eq (F := F) arg4.view X4 _ (k0_off1_inb i ⟨k, by omega⟩) k 0 (k0_off1_eq i ⟨k, by omega⟩) hk8 (by decide)
      have e3 := kblock_eq (F := F) arg5.view X5 _ (k0_off1_inb i ⟨k, by omega⟩) k 0 (k0_off1_eq i ⟨k, by omega⟩) hk8 (by decide)
      refine ⟨(trip_max0 ..).trans ?_, (trip_acc0 ..).trans ?_⟩
      · rw [e1, e2]; exact congrArg _ ih9
      · rw [e1, e2, e3]; exact congrArg₂ (fun a b => accSlab _ a b _) ih9 ih11
    | 1 =>
      have e1 := qcols_eq (F := F) arg3.view X3 ![0, 0, 128] inb_S1x512x512_S1x512x128_0_0_128 1 rfl (by decide)
      have e2 := kblock_eq (F := F) arg4.view X4 _ (k0_off2_inb i ⟨k, by omega⟩) k 1 (k0_off2_eq i ⟨k, by omega⟩) hk8 (by decide)
      have e3 := kblock_eq (F := F) arg5.view X5 _ (k0_off2_inb i ⟨k, by omega⟩) k 1 (k0_off2_eq i ⟨k, by omega⟩) hk8 (by decide)
      refine ⟨(trip_max1 ..).trans ?_, (trip_acc1 ..).trans ?_⟩
      · rw [e1, e2]; exact congrArg _ ih9
      · rw [e1, e2, e3]; exact congrArg₂ (fun a b => accSlab _ a b _) ih9 ih11
    | 2 =>
      have e1 := qcols_eq (F := F) arg3.view X3 ![0, 0, 256] inb_S1x512x512_S1x512x128_0_0_256 2 rfl (by decide)
      have e2 := kblock_eq (F := F) arg4.view X4 _ (k0_off3_inb i ⟨k, by omega⟩) k 2 (k0_off3_eq i ⟨k, by omega⟩) hk8 (by decide)
      have e3 := kblock_eq (F := F) arg5.view X5 _ (k0_off3_inb i ⟨k, by omega⟩) k 2 (k0_off3_eq i ⟨k, by omega⟩) hk8 (by decide)
      refine ⟨(trip_max2 ..).trans ?_, (trip_acc2 ..).trans ?_⟩
      · rw [e1, e2]; exact congrArg _ ih9
      · rw [e1, e2, e3]; exact congrArg₂ (fun a b => accSlab _ a b _) ih9 ih11
    | 3 =>
      have e1 := qcols_eq (F := F) arg3.view X3 ![0, 0, 384] inb_S1x512x512_S1x512x128_0_0_384 3 rfl (by decide)
      have e2 := kblock_eq (F := F) arg4.view X4 _ (k0_off4_inb i ⟨k, by omega⟩) k 3 (k0_off4_eq i ⟨k, by omega⟩) hk8 (by decide)
      have e3 := kblock_eq (F := F) arg5.view X5 _ (k0_off4_inb i ⟨k, by omega⟩) k 3 (k0_off4_eq i ⟨k, by omega⟩) hk8 (by decide)
      refine ⟨(trip_max3 ..).trans ?_, (trip_acc3 ..).trans ?_⟩
      · rw [e1, e2]; exact congrArg _ ih9
      · rw [e1, e2, e3]; exact congrArg₂ (fun a b => accSlab _ a b _) ih9 ih11

end

end Cert.Proof.Att

end
-- ==== Proof.Value.lean ====
/-
  The value of the attention kernel's body at one grid point: what the output block ends with, from the three input
  blocks. Each head runs over the whole key blocks, then over the block on the diagonal under its mask, and divides.
-/
module

public import proofs.«01_k».proof.Proof.Loop

@[expose] public section

set_option maxRecDepth 16384
set_option maxHeartbeats 4000000

noncomputable section

namespace Cert.Proof.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (𝒱 : Variants) (c : Dev nD) (bd : Option 𝒱.V) (E : Set ℕ) (i : grid0.Coords)
    (arg3 : Memref sig .tc .vmem S1x512x512 .bf16) (harg3 : arg3.IsWhole)
    (arg4 : Memref sig .tc .vmem S1x4096x512 .bf16) (harg4 : arg4.IsWhole)
    (arg5 : Memref sig .tc .vmem S1x4096x512 .bf16) (harg5 : arg5.IsWhole)
    (arg6 : Memref sig .tc .vmem S512x256 .f32) (harg6 : arg6.IsWhole)
    (arg7 : Memref sig .tc .vmem S4x512x512 .f32) (harg7 : arg7.IsWhole)
    (arg8 : Memref sig .tc .vmem S4x512x512 .bf16) (harg8 : arg8.IsWhole)
    (arg9 : Memref sig .tc .vmem S4x512x128 .f32) (harg9 : arg9.IsWhole)
    (arg10 : Memref sig .tc .vmem S4x512x128 .f32) (harg10 : arg10.IsWhole)
    (arg11 : Memref sig .tc .vmem S4x512x128 .f32) (harg11 : arg11.IsWhole)
    (arg2 : BitVec 32) (v32 v33 : IVec S512x512 32) (c64 : BitVec 32) (v35 : IVec S512x512 32) (v37 : IVec S512x512 1) (v63 : BitVec 32)
    (X3 : Ct (F := F) arg3) (X4 : Ct (F := F) arg4) (X5 : Ct (F := F) arg5)
    (f7 : Ct (F := F) arg7) (f8 : Ct (F := F) arg8) (f9 : Ct (F := F) arg9) (f10 : Ct (F := F) arg10) (f11 : Ct (F := F) arg11)

/-- After the loop over whole key blocks: the slabs stated, the rest of the scratch at anything. -/
@[reducible] def exit1 :
    LoopExit (loopInv_k0_t1 (F := F) 𝒱 c bd E i arg3 harg3 arg4 harg4 arg5 harg5 arg6 harg6 arg7 harg7 arg8 harg8 arg9 harg9
      arg10 harg10 arg11 harg11 arg2 v32 v33 c64 v35 v37 X3 X4 X5 f7 f8 f9 f10 f11) where
  post _ := iprop(at_ c arg3 X3 ∗ at_ c arg4 X4 ∗ at_ c arg5 X5 ∗ (∃ g, at_ c arg7 g) ∗ (∃ g, at_ c arg8 g)
    ∗ (∃ g, at_ c arg9 g ∗ ⌜∀ h : Fin 4, MaxAt arg3 arg4 arg9 X3 X4 f9 h (i 2).val g⌝) ∗ (∃ g, at_ c arg10 g)
    ∗ (∃ g, at_ c arg11 g ∗ ⌜∀ h : Fin 4, AccAt arg3 arg4 arg5 arg9 arg11 X3 X4 X5 f9 f11 h (i 2).val g⌝))
  exit u := by
    show inv_k0_t1 (F := F) 𝒱 c bd i arg3 harg3 arg4 harg4 arg5 harg5 arg6 harg6 arg7 harg7 arg8 harg8 arg9 harg9 arg10 harg10 arg11 harg11
      arg2 v32 v33 c64 v35 v37 X3 X4 X5 f7 f8 f9 f10 f11 (k0_t1_loop i).trips u ⊢ _
    rw [trips_eq]
    iintro ⟨H3, H4, H5, ⟨%g7, H7, %h7⟩, ⟨%g8, H8, %h8⟩, ⟨%g9, H9, %h9⟩, ⟨%g10, H10, %h10⟩, ⟨%g11, H11, %h11⟩⟩
    isplitl [H3]; · iexact H3
    isplitl [H4]; · iexact H4
    isplitl [H5]; · iexact H5
    isplitl [H7]; · iexists _; iexact H7
    isplitl [H8]; · iexists _; iexact H8
    isplitl [H9]
    · iexists _; isplitl [H9]; · iexact H9
      ipureintro; intro h; rw [h9]
      have := (loop_slabs (F := F) 𝒱 c bd i arg3 harg3 arg4 harg4 arg5 harg5 arg6 harg6 arg7 harg7 arg8 harg8 arg9 harg9 arg10 harg10 arg11 harg11
        arg2 v32 v33 c64 v35 v37 X3 X4 X5 f7 f8 f9 f10 f11 _ le_rfl h).1
      rw [trips_eq] at this
      exact this
    isplitl [H10]; · iexists _; iexact H10
    iexists _; isplitl [H11]; · iexact H11
    ipureintro; intro h; rw [h11]
    have := (loop_slabs (F := F) 𝒱 c bd i arg3 harg3 arg4 harg4 arg5 harg5 arg6 harg6 arg7 harg7 arg8 harg8 arg9 harg9 arg10 harg10 arg11 harg11
      arg2 v32 v33 c64 v35 v37 X3 X4 X5 f7 f8 f9 f10 f11 _ le_rfl h).2
    rw [trips_eq] at this
    exact this

/-- The second loop makes no trip. -/
@[reducible] def exit2 :
    LoopExit (loopInv_k0_t2 (F := F) 𝒱 c bd E i arg3 harg3 arg4 harg4 arg5 harg5 arg6 harg6 arg7 harg7 arg8 harg8 arg9 harg9
      arg10 harg10 arg11 harg11 arg2 v32 v33 c64 v35 v37 v63 X3 X4 X5 f7 f8 f9 f10 f11) where
  post _ := iprop(at_ c arg3 X3 ∗ at_ c arg4 X4 ∗ at_ c arg5 X5 ∗ at_ c arg7 f7 ∗ at_ c arg8 f8
    ∗ at_ c arg9 f9 ∗ at_ c arg10 f10 ∗ at_ c arg11 f11)
  exit u := by
    show inv_k0_t2 (F := F) 𝒱 c bd i arg3 harg3 arg4 harg4 arg5 harg5 arg6 harg6 arg7 harg7 arg8 harg8 arg9 harg9 arg10 harg10 arg11 harg11
      arg2 v32 v33 c64 v35 v37 v63 X3 X4 X5 f7 f8 f9 f10 f11 (k0_t2_loop i).trips u ⊢ _
    rw [trips2_eq]
    iintro ⟨H3, H4, H5, ⟨%g7, H7, %h7⟩, ⟨%g8, H8, %h8⟩, ⟨%g9, H9, %h9⟩, ⟨%g10, H10, %h10⟩, ⟨%g11, H11, %h11⟩⟩
    have e7 : g7 = f7 := h7
    have e8 : g8 = f8 := h8
    have e9 : g9 = f9 := h9
    have e10 : g10 = f10 := h10
    have e11 : g11 = f11 := h11
    subst e7 e8 e9 e10 e11
    isplitl [H3]; · iexact H3
    isplitl [H4]; · iexact H4
    isplitl [H5]; · iexact H5
    isplitl [H7]; · iexact H7
    isplitl [H8]; · iexact H8
    isplitl [H9]; · iexact H9
    isplitl [H10]; · iexact H10
    iexact H11

end

/-- Which keys of the block on the diagonal a query of the block may see. -/
def visw : IVec S512x512 1 :=
  k0_pay115 (k0_pay112) (iota .tc S512x512 32 [0] iota_S512x512_d0_w32) 64#32 (k0_pay113) (k0_pay114)

/-- The scores against the block on the diagonal, masked. -/
def mscores (Q : Vec F S1x512x512 .bf16) (K : Vec F S1x4096x512 .bf16) (h n : ℕ) : FVec F S512x512 .f32 :=
  select visw (scores (qOf Q h) (blkOf K n h)) (broadcast S512x512 (Named.named κ "mask" 0xF149F2CA#32))

/-- What the running maximum and the accumulator start from. -/
def m0 : Vec F S1x512x128 .f32 := fun _ => Named.named κ "mask" 0xF149F2CA#32
def a0 : Vec F S1x512x128 .f32 := fun _ => Scalar.ofBits .f32 0x00000000#32

/-- Head `h`'s accumulator at the end, of the query block against `n` whole key blocks and the one on the diagonal. -/
def finAcc (Q : Vec F S1x512x512 .bf16) (K V : Vec F S1x4096x512 .bf16) (h n : ℕ) : Vec F S1x512x128 .f32 :=
  accSlab (mscores Q K h n) (stMax Q K h m0 n) (stAcc Q K V h m0 a0 n) (blkOf V n h)

/-- Two heads' 128 columns of the output. -/
def pairOut (e o : Vec F S1x512x128 .f32) : FVec F S512x128 .f32 :=
  let a : FVec F S512x128 .f32 := shapeCast S512x128 e shapeCasts_S1x512x128_S512x128
  let b : FVec F S512x128 .f32 := shapeCast S512x128 o shapeCasts_S1x512x128_S512x128
  select (cmpi .slt (iota .tc S512x128 32 [1] iota_S512x128_d1_w32) (broadcast S512x128 64#32))
    (divf a (broadcastTo S512x128 (extractStridedSlice S512x1 ![0, 64] a slices_S512x128_o0_64_S512x1) broadcasts_S512x1_S512x128))
    (divf b (broadcastTo S512x128 (extractStridedSlice S512x1 ![0, 0] b slices_S512x128_o0_0_S512x1) broadcasts_S512x1_S512x128))

/-- The output block of a query block against `n` whole key blocks and the one on the diagonal. -/
def outBlock (Q : Vec F S1x512x512 .bf16) (K V : Vec F S1x4096x512 .bf16) (n : ℕ) : Vec F S512x256 .f32 := fun y =>
  let z : S512x128.Idx := fun a => match a with
    | ⟨0, _⟩ => ⟨(y 0).val, (y 0).isLt⟩
    | ⟨1, _⟩ => ⟨(y 1).val % 128, Nat.mod_lt _ (by decide)⟩
  if (y 1).val < 128 then pairOut (finAcc Q K V 0 n) (finAcc Q K V 1 n) z else pairOut (finAcc Q K V 2 n) (finAcc Q K V 3 n) z

theorem fill_max (v : View sig .tc .vmem S4x512x128 .f32) (f : BufTy.Contents (Elt F) v.ty) (h : Fin 4) :
    slab128 v (v.writes (Elt F) f [⟨Rect.unit (s := S4x512x128) ![0, 0, 0] S4x512x128.size inb_S4x512x128_S4x512x128_0_0_0, k0_pay110⟩]) h.val (inb128 h) = m0 := by
  funext x
  unfold slab128
  rw [View.readAt_apply]
  refine (View.read_writes_cons_unit_of_mem v f inb_S4x512x128_S4x512x128_0_0_0 k0_pay110 [] _ ((Rect.unit (s := S4x512x128) ![h.val, 0, 0] S1x512x128.size (inb128 h)).toLoadRect.idx x) rfl ?_).trans ?_
  · intro a
    match a with
    | ⟨0, _⟩ => exact (Nat.zero_add _).symm
    | ⟨1, _⟩ => exact (Nat.zero_add _).symm
    | ⟨2, _⟩ => exact (Nat.zero_add _).symm
  · rfl

theorem fill_acc (v : View sig .tc .vmem S4x512x128 .f32) (f : BufTy.Contents (Elt F) v.ty) (h : Fin 4) :
    slab128 v (v.writes (Elt F) f [⟨Rect.unit (s := S4x512x128) ![0, 0, 0] S4x512x128.size inb_S4x512x128_S4x512x128_0_0_0, k0_pay111⟩]) h.val (inb128 h) = a0 := by
  funext x
  unfold slab128
  rw [View.readAt_apply]
  refine (View.read_writes_cons_unit_of_mem v f inb_S4x512x128_S4x512x128_0_0_0 k0_pay111 [] _ ((Rect.unit (s := S4x512x128) ![h.val, 0, 0] S1x512x128.size (inb128 h)).toLoadRect.idx x) rfl ?_).trans ?_
  · intro a
    match a with
    | ⟨0, _⟩ => exact (Nat.zero_add _).symm
    | ⟨1, _⟩ => exact (Nat.zero_add _).symm
    | ⟨2, _⟩ => exact (Nat.zero_add _).symm
  · rfl

attribute [local instance] exit1 exit2 in
theorem valueRun (c : Dev nD) (i : grid0.Coords)
    (arg3 : Memref sig .tc .vmem S1x512x512 .bf16) (harg3 : arg3.IsWhole)
    (arg4 : Memref sig .tc .vmem S1x4096x512 .bf16) (harg4 : arg4.IsWhole)
    (arg5 : Memref sig .tc .vmem S1x4096x512 .bf16) (harg5 : arg5.IsWhole)
    (arg6 : Memref sig .tc .vmem S512x256 .f32) (harg6 : arg6.IsWhole)
    (arg7 : Memref sig .tc .vmem S4x512x512 .f32) (harg7 : arg7.IsWhole)
    (arg8 : Memref sig .tc .vmem S4x512x512 .bf16) (harg8 : arg8.IsWhole)
    (arg9 : Memref sig .tc .vmem S4x512x128 .f32) (harg9 : arg9.IsWhole)
    (arg10 : Memref sig .tc .vmem S4x512x128 .f32) (harg10 : arg10.IsWhole)
    (arg11 : Memref sig .tc .vmem S4x512x128 .f32) (harg11 : arg11.IsWhole)
    (X3 : Ct (F := F) arg3) (X4 : Ct (F := F) arg4) (X5 : Ct (F := F) arg5) (f6 : Ct (F := F) arg6)
    (f7 : Ct (F := F) arg7) (f8 : Ct (F := F) arg8) (f9 : Ct (F := F) arg9) (f10 : Ct (F := F) arg10)
    (f11 : Ct (F := F) arg11) (E : Set ℕ) :
      iprop(at_ c arg3 X3 ∗ at_ c arg4 X4 ∗ at_ c arg5 X5 ∗ at_ c arg6 f6 ∗ at_ c arg7 f7 ∗ at_ c arg8 f8
        ∗ at_ c arg9 f9 ∗ at_ c arg10 f10 ∗ at_ c arg11 f11)
      ⊢ wp frame (wpE (defs₀ (F := F)) Variants.none (c : Thread nD τ) none) E
          (cc0_attention i arg3 harg3 arg4 harg4 arg5 harg5 arg6 harg6 arg7 harg7 arg8 harg8 arg9 harg9 arg10 harg10 arg11 harg11)
          (fun _ => iprop(at_ c arg3 X3 ∗ at_ c arg4 X4 ∗ at_ c arg5 X5
            ∗ (∃ g, at_ c arg6 g ∗ ⌜arg6.view.read (Elt F) g = outBlock (arg3.view.read (Elt F) X3) (arg4.view.read (Elt F) X4) (arg5.view.read (Elt F) X5) (i 2).val⌝)
            ∗ (∃ f, at_ c arg7 f) ∗ (∃ f, at_ c arg8 f) ∗ (∃ f, at_ c arg9 f) ∗ (∃ f, at_ c arg10 f)
            ∗ (∃ f, at_ c arg11 f))) := by
  rewrite [cc0_attention_eq_skeleton]; unfold cc0_attention_skel
  iintro ⟨H3, H4, H5, H6, H7, H8, H9, H10, H11⟩
  sl_exec
  sl_step
  isplitl [HL10]; · iexact HL10
  isplitl [HL11]; · iexact HL11
  isplitl [HL12]; · iexact HL12
  isplitl [H6]
  · iexists _; isplitl [H6]; · iexact H6
    ipureintro
    have hi : (i 2).val < 8 := (i 2).isLt
    have M : ∀ h : Fin 4, slab128 arg9.view gL2 h.val (inb128 h) = stMax (arg3.view.read (Elt F) X3) (arg4.view.read (Elt F) X4) h.val m0 (i 2).val := fun h =>
      (hL6 h).trans (congrArg (fun z => stMax _ _ _ z _) (fill_max _ _ h))
    have A : ∀ h : Fin 4, slab128 arg11.view gL4 h.val (inb128 h) = stAcc (arg3.view.read (Elt F) X3) (arg4.view.read (Elt F) X4) (arg5.view.read (Elt F) X5) h.val m0 a0 (i 2).val := fun h =>
      (hL9 h).trans (congrArg₂ (fun z w => stAcc _ _ _ _ z w _) (fill_max _ _ h) (fill_acc _ _ h))
    clear hL6 hL9
    have P0 : (valueRun.sl.v375 i arg3 arg4 arg5 arg7 arg8 arg9 arg10 arg11 X3 X4 X5 gL2 gL4)
        = pairOut (finAcc (arg3.view.read (Elt F) X3) (arg4.view.read (Elt F) X4) (arg5.view.read (Elt F) X5) 0 (i 2).val)
            (finAcc (arg3.view.read (Elt F) X3) (arg4.view.read (Elt F) X4) (arg5.view.read (Elt F) X5) 1 (i 2).val) := by
      have q0 := qcols_eq (F := F) arg3.view X3 ![0, 0, 0] inb_S1x512x512_S1x512x128_0_0_0 0 rfl (by decide)
      have k0 := kblock_eq (F := F) arg4.view X4 _ (k0_off9_inb i) (i 2).val 0 (k0_off9_eq i) hi (by decide)
      have w0 := kblock_eq (F := F) arg5.view X5 _ (k0_off9_inb i) (i 2).val 0 (k0_off9_eq i) hi (by decide)
      have hm0 : slab128 arg9.view gL2 0 inb_S4x512x128_S1x512x128_0_0_0 = stMax (arg3.view.read (Elt F) X3) (arg4.view.read (Elt F) X4) 0 m0 (i 2).val := M 0
      have ha0 : slab128 arg11.view gL4 0 inb_S4x512x128_S1x512x128_0_0_0 = stAcc (arg3.view.read (Elt F) X3) (arg4.view.read (Elt F) X4) (arg5.view.read (Elt F) X5) 0 m0 a0 (i 2).val := A 0
      have q1 := qcols_eq (F := F) arg3.view X3 ![0, 0, 128] inb_S1x512x512_S1x512x128_0_0_128 1 rfl (by decide)
      have k1 := kblock_eq (F := F) arg4.view X4 _ (k0_off10_inb i) (i 2).val 1 (k0_off10_eq i) hi (by decide)
      have w1 := kblock_eq (F := F) arg5.view X5 _ (k0_off10_inb i) (i 2).val 1 (k0_off10_eq i) hi (by decide)
      have hm1 : slab128 arg9.view gL2 1 inb_S4x512x128_S1x512x128_1_0_0 = stMax (arg3.view.read (Elt F) X3) (arg4.view.read (Elt F) X4) 1 m0 (i 2).val := M 1
      have ha1 : slab128 arg11.view gL4 1 inb_S4x512x128_S1x512x128_1_0_0 = stAcc (arg3.view.read (Elt F) X3) (arg4.view.read (Elt F) X4) (arg5.view.read (Elt F) X5) 1 m0 a0 (i 2).val := A 1
      unfold finAcc mscores
      rw [← q0, ← k0, ← w0, ← hm0, ← ha0]
      rw [← q1, ← k1, ← w1, ← hm1, ← ha1]
      unfold slab128
      sl_unfold_words
      simp only [View.readCov, ld_hit, ld128_miss, ld512_miss, ld512_cols, ldjoin, ldjoin_miss, ne_eq, Nat.reduceEqDiff, not_false_eq_true, OfNat.ofNat_ne_zero, OfNat.zero_ne_ofNat, OfNat.ofNat_ne_one, OfNat.one_ne_ofNat, one_ne_zero, zero_ne_one]
      repeat (first | rw [ld_hit] | (rw [ld512_cols (hj := ?_)]; swap; decide) | rw [ldjoin] | (rw [ld128_miss (h := ?_)]; swap; decide) | (rw [ld512_miss (h := ?_)]; swap; decide) | (rw [ldjoin_miss (h := ?_)]; swap; decide))
      rfl
    have P1 : k0_pay1 (valueRun.sl.v380 i arg3 arg4 arg5 arg7 arg8 arg9 arg10 arg11 X3 X4 X5 gL2 gL4)
            (cmpi CmpIPredicate.slt valueRun.sl.v362 valueRun.sl.v369)
            (valueRun.sl.v386 i arg3 arg4 arg5 arg7 arg8 arg9 arg10 arg11 X3 X4 X5 gL2 gL4)
            (valueRun.sl.v387 i arg3 arg4 arg5 arg7 arg8 arg9 arg10 arg11 X3 X4 X5 gL2 gL4)
        = pairOut (finAcc (arg3.view.read (Elt F) X3) (arg4.view.read (Elt F) X4) (arg5.view.read (Elt F) X5) 2 (i 2).val)
            (finAcc (arg3.view.read (Elt F) X3) (arg4.view.read (Elt F) X4) (arg5.view.read (Elt F) X5) 3 (i 2).val) := by
      have q2 := qcols_eq (F := F) arg3.view X3 ![0, 0, 256] inb_S1x512x512_S1x512x128_0_0_256 2 rfl (by decide)
      have k2 := kblock_eq (F := F) arg4.view X4 _ (k0_off11_inb i) (i 2).val 2 (k0_off11_eq i) hi (by decide)
      have w2 := kblock_eq (F := F) arg5.view X5 _ (k0_off11_inb i) (i 2).val 2 (k0_off11_eq i) hi (by decide)
      have hm2 : slab128 arg9.view gL2 2 inb_S4x512x128_S1x512x128_2_0_0 = stMax (arg3.view.read (Elt F) X3) (arg4.view.read (Elt F) X4) 2 m0 (i 2).val := M 2
      have ha2 : slab128 arg11.view gL4 2 inb_S4x512x128_S1x512x128_2_0_0 = stAcc (arg3.view.read (Elt F) X3) (arg4.view.read (Elt F) X4) (arg5.view.read (Elt F) X5) 2 m0 a0 (i 2).val := A 2
      have q3 := qcols_eq (F := F) arg3.view X3 ![0, 0, 384] inb_S1x512x512_S1x512x128_0_0_384 3 rfl (by decide)
      have k3 := kblock_eq (F := F) arg4.view X4 _ (k0_off12_inb i) (i 2).val 3 (k0_off12_eq i) hi (by decide)
      have w3 := kblock_eq (F := F) arg5.view X5 _ (k0_off12_inb i) (i 2).val 3 (k0_off12_eq i) hi (by decide)
      have hm3 : slab128 arg9.view gL2 3 inb_S4x512x128_S1x512x128_3_0_0 = stMax (arg3.view.read (Elt F) X3) (arg4.view.read (Elt F) X4) 3 m0 (i 2).val := M 3
      have ha3 : slab128 arg11.view gL4 3 inb_S4x512x128_S1x512x128_3_0_0 = stAcc (arg3.view.read (Elt F) X3) (arg4.view.read (Elt F) X4) (arg5.view.read (Elt F) X5) 3 m0 a0 (i 2).val := A 3
      unfold finAcc mscores
      rw [← q2, ← k2, ← w2, ← hm2, ← ha2]
      rw [← q3, ← k3, ← w3, ← hm3, ← ha3]
      unfold slab128
      sl_unfold_words
      simp only [View.readCov, ld_hit, ld128_miss, ld512_miss, ld512_cols, ldjoin, ldjoin_miss, ne_eq, Nat.reduceEqDiff, not_false_eq_true, OfNat.ofNat_ne_zero, OfNat.zero_ne_ofNat, OfNat.ofNat_ne_one, OfNat.one_ne_ofNat, one_ne_zero, zero_ne_one]
      repeat (first | rw [ld_hit] | (rw [ld512_cols (hj := ?_)]; swap; decide) | rw [ldjoin] | (rw [ld128_miss (h := ?_)]; swap; decide) | (rw [ld512_miss (h := ?_)]; swap; decide) | (rw [ldjoin_miss (h := ?_)]; swap; decide))
      rfl
    rw [P0, P1]
    funext y
    have hy : (y 1).val < 256 := (y 1).isLt
    unfold outBlock
    by_cases h : (y 1).val < 128
    · rw [if_pos h, View.read_writes_cons_unit_of_not_mem arg6.view f6 inb_S512x256_S512x128_0_128 _ _ y rfl 1 (by left; exact h)]
      refine View.read_writes_cons_unit_of_mem arg6.view f6 _ _ [] y _ rfl fun a => ?_
      match a with
      | ⟨0, _⟩ => exact (Nat.zero_add _).symm
      | ⟨1, _⟩ => show (y 1).val = 0 + (y 1).val % 128; omega
    · rw [if_neg h]
      refine View.read_writes_cons_unit_of_mem arg6.view f6 inb_S512x256_S512x128_0_128 _ _ y _ rfl fun a => ?_
      match a with
      | ⟨0, _⟩ => exact (Nat.zero_add _).symm
      | ⟨1, _⟩ => show (y 1).val = 128 + (y 1).val % 128; omega
  isplitl [HL13]; · iexists _; iexact HL13
  isplitl [HL14]; · iexists _; iexact HL14
  isplitl [HL15]; · iexists _; iexact HL15
  isplitl [HL16]; · iexists _; iexact HL16
  iexists _; iexact HL17

end Cert.Proof.Att

end
-- ==== Proof.Math1.lean ====
/-
  The attention step's block operations over the extended reals, read at an index.
-/
module

public import proofs.«01_k».proof.Proof.Value
public import Idealize.ShloMosaic.Lib.Pointwise

@[expose] public section

set_option maxRecDepth 16384
set_option maxHeartbeats 400000

noncomputable section

namespace Cert.Proof.Att

open Cert.KernelIdeal Cert.KernelIdeal.Gen
open Idealize.ShloMosaic Idealize.ShloMosaic.TcCoe

theorem ofBits_ninf : Ideal.ofBits FTy.f32 4286578688#32 = ⊥ := by simp [Ideal.ofBits, Ideal.ieee]

theorem scores_at (q k : Vec Ideal S1x512x128 .bf16) (r t : Fin 512) :
    scores q k (ix2 r t) = ∑ d : Fin 128, q (ix3 0 r d) * k (ix3 0 t d) := by
  pointwise [scores]

theorem newMax_at (s : FVec Ideal S512x512 .f32) (m : Vec Ideal S1x512x128 .f32) (r : Fin 512) (l : Fin 128) :
    newMax s m (ix2 r l) = max (m (ix3 0 r l)) (Finset.univ.fold max ⊥ fun t : Fin 512 => s (ix2 r t)) := by
  pointwise [newMax]
  rw [ofBits_ninf]

theorem maxSlab_at (s : FVec Ideal S512x512 .f32) (m : Vec Ideal S1x512x128 .f32) (r : Fin 512) (l : Fin 128) :
    maxSlab s m (ix3 0 r l) = newMax s m (ix2 r l) := by
  pointwise [maxSlab]

theorem scaleSlab_at (s : FVec Ideal S512x512 .f32) (m : Vec Ideal S1x512x128 .f32) (r : Fin 512) (l : Fin 128) :
    scaleSlab s m (ix3 0 r l) = Ideal.exp2 (m (ix3 0 r l) - newMax s m (ix2 r l)) := by
  pointwise [scaleSlab]
  rfl

theorem accum_at (al acc : Vec Ideal S1x512x128 .f32) (p : Vec Ideal S1x512x512 .bf16) (v : Vec Ideal S1x512x128 .bf16) (r : Fin 512) (l : Fin 128) :
    accum al acc p v (ix3 0 r l) = al (ix3 0 r l) * acc (ix3 0 r l) + ∑ t : Fin 512, p (ix3 0 r t) * v (ix3 0 t l) := by
  pointwise [accum]

theorem weights_at (m' s : Vec Ideal S1x512x128 .f32) (r : Fin 512) (l : Fin 128) :
    weights m' s (ix3 0 r l) = Ideal.exp2 (s (ix3 0 r l) - m' (ix3 0 r l)) := by
  pointwise [weights]
  rfl

theorem lane_lt : ∀ l : Fin 128, IntOp.cmpi CmpIPredicate.slt (BitVec.ofNat 32 l.val) 64#32 = if l.val < 64 then 1#1 else 0#1 := by
  decide +kernel

/-- The chunk of a row, as the kernel computes it on words. -/
theorem chunk_word : ∀ t : Fin 512, Scalar.select
        (IntOp.andi
          (IntOp.cmpi CmpIPredicate.ne
            (IntOp.subi (BitVec.setWidth 32 (IntOp.cmpi CmpIPredicate.sgt (BitVec.ofNat 32 t.val) 0#32))
              (BitVec.setWidth 32 (IntOp.cmpi CmpIPredicate.slt (BitVec.ofNat 32 t.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 t.val) 64#32) 0#32))
        (IntOp.subi (IntOp.divsi ArithUnit.vector (BitVec.ofNat 32 t.val) 64#32) 1#32)
        (IntOp.divsi ArithUnit.vector (BitVec.ofNat 32 t.val) 64#32) = BitVec.ofNat 32 (t.val / 64) := by
  decide +kernel

theorem chunk_le : ∀ a b : Fin 8, IntOp.cmpi CmpIPredicate.sle (BitVec.ofNat 32 a.val) (BitVec.ofNat 32 b.val) = if a.val ≤ b.val then 1#1 else 0#1 := by
  decide +kernel

theorem pairOut_at (e o : Vec Ideal S1x512x128 .f32) (r : Fin 512) (l : Fin 128) :
    pairOut e o (ix2 r l) = if l.val < 64 then Ideal.div (e (ix3 0 r l)) (e (ix3 0 r 64)) else Ideal.div (o (ix3 0 r l)) (o (ix3 0 r 0)) := by
  pointwise [pairOut]
  rw [lane_lt l]
  by_cases h : l.val < 64
  · rw [if_pos h, if_pos h]; rfl
  · rw [if_neg h, if_neg h]; rfl

theorem visw_at (r t : Fin 512) : visw (ix2 r t) = if t.val / 64 ≤ r.val / 64 then 1#1 else 0#1 := by
  unfold visw
  unfold k0_pay115 k0_pay112 k0_pay113 k0_pay114
  pointwise
  rw [chunk_word t, chunk_word r]
  exact chunk_le ⟨t.val / 64, by omega⟩ ⟨r.val / 64, by omega⟩

theorem weightSlab_at (s : FVec Ideal S512x512 .f32) (m : Vec Ideal S1x512x128 .f32) (M : EReal) (r : Fin 512)
    (hm : ∀ l : Fin 128, newMax s m (ix2 r l) = M) (t : Fin 512) :
    weightSlab s m (ix3 0 r t) = Ideal.exp2 (s (ix2 r t) - M) := by
  have key (j : ℕ) (hj : j + 128 ≤ 512) (l : Fin 128) (e : j + l.val = t.val) :
      weights (maxSlab s m) (colsAt (Val := Elt Ideal) (e := .f32) j hj (shapeCast S1x512x512 s shapeCasts_S512x512_S1x512x512)) (ix3 0 r l)
        = Ideal.exp2 (s (ix2 r t) - M) := by
    rw [weights_at, maxSlab_at, hm]
    congr 2
    unfold colsAt
    have : (fun a => match a with
      | ⟨0, _⟩ => ⟨((ix3 (0 : Fin 1) r l : S1x512x128.Idx) 0).val, ((ix3 (0 : Fin 1) r l : S1x512x128.Idx) 0).isLt⟩
      | ⟨1, _⟩ => ⟨((ix3 (0 : Fin 1) r l : S1x512x128.Idx) 1).val, ((ix3 (0 : Fin 1) r l : S1x512x128.Idx) 1).isLt⟩
      | ⟨2, _⟩ => ⟨j + ((ix3 (0 : Fin 1) r l : S1x512x128.Idx) 2).val, by show j + l.val < 512; omega⟩ : S1x512x512.Idx) = ix3 0 r t := by
      funext a
      match a with
      | ⟨0, _⟩ => rfl
      | ⟨1, _⟩ => rfl
      | ⟨2, _⟩ => exact Fin.ext e
    refine (congrArg (shapeCast S1x512x512 s shapeCasts_S512x512_S1x512x512) this).trans ?_
    pointwise
  unfold weightSlab joinCols
  have ey : (fun a => match a with
      | ⟨0, _⟩ => ⟨((ix3 (0 : Fin 1) r t : S1x512x512.Idx) 0).val, ((ix3 (0 : Fin 1) r t : S1x512x512.Idx) 0).isLt⟩
      | ⟨1, _⟩ => ⟨((ix3 (0 : Fin 1) r t : S1x512x512.Idx) 1).val, ((ix3 (0 : Fin 1) r t : S1x512x512.Idx) 1).isLt⟩
      | ⟨2, _⟩ => ⟨((ix3 (0 : Fin 1) r t : S1x512x512.Idx) 2).val % 128, Nat.mod_lt _ (by decide)⟩ : S1x512x128.Idx)
        = ix3 0 r ⟨t.val % 128, Nat.mod_lt _ (by decide)⟩ := by
    funext a
    match a with
    | ⟨0, _⟩ => rfl
    | ⟨1, _⟩ => rfl
    | ⟨2, _⟩ => rfl
  by_cases h1 : t.val < 128
  · exact (if_pos h1).trans ((congrArg _ ey).trans (key 0 _ _ (by show 0 + t.val % 128 = _; omega)))
  · refine (if_neg h1).trans ?_
    by_cases h2 : t.val < 256
    · exact (if_pos h2).trans ((congrArg _ ey).trans (key 128 _ _ (by show 128 + t.val % 128 = _; omega)))
    · refine (if_neg h2).trans ?_
      by_cases h3 : t.val < 384
      · exact (if_pos h3).trans ((congrArg _ ey).trans (key 256 _ _ (by show 256 + t.val % 128 = _; omega)))
      · exact (if_neg h3).trans ((congrArg _ ey).trans (key 384 _ _ (by show 384 + t.val % 128 = _; omega)))

end Cert.Proof.Att

end
-- ==== Proof.Soft.lean ====
/-
  The softmax in base two, taken block by block with a running maximum, against the softmax in base e of the whole row:
  the two give the same weighted mean of the values.
-/
module

public import Idealize.ShloMosaic.PureOps.Ideal
public import Idealize.ShloMosaic.PureOps.Ideal.Laws

@[expose] public section

set_option maxHeartbeats 400000

noncomputable section

namespace Cert.Proof.Soft

open Idealize.ShloMosaic

/-- The running maximum after a number of blocks. -/
def runM (s : ℕ → Fin 512 → EReal) : ℕ → EReal
  | 0 => ⊥
  | j + 1 => max (runM s j) (Finset.univ.fold max ⊥ (s j))

/-- The running sum of weighted values after a number of blocks. -/
def runA (s v : ℕ → Fin 512 → EReal) : ℕ → EReal
  | 0 => 0
  | j + 1 => Ideal.exp2 (runM s j - runM s (j + 1)) * runA s v j + ∑ t, Ideal.exp2 (s j t - runM s (j + 1)) * v j t

/-- No score is plus infinity, and a block has a real score. -/
def Fine {ι : Type} (s : ι → EReal) : Prop := (∀ t, s t ≠ ⊤) ∧ ∃ t, s t ≠ ⊥

theorem fold_real {ι : Type} [Fintype ι] (s : ι → EReal) (h : Fine s) : ∃ a : ℝ, Finset.univ.fold max ⊥ s = a := by
  have e : Finset.univ.fold max ⊥ s = Finset.univ.sup s := rfl
  have h1 : Finset.univ.sup s ≠ ⊤ := (lt_top_iff_ne_top.mp ((Finset.sup_lt_iff bot_lt_top).2 fun t _ => lt_top_iff_ne_top.2 (h.1 t)))
  have h2 : Finset.univ.sup s ≠ ⊥ := by
    obtain ⟨t, ht⟩ := h.2
    intro hb
    exact ht (le_bot_iff.1 (hb ▸ Finset.le_sup (f := s) (Finset.mem_univ t)))
  rw [e]
  exact ⟨_, (EReal.coe_toReal h1 h2).symm⟩

theorem runM_succ_real (s : ℕ → Fin 512 → EReal) (n : ℕ) (h : ∀ j ≤ n, Fine (s j)) : ∃ a : ℝ, runM s (n + 1) = a := by
  induction n with
  | zero =>
    obtain ⟨a, ha⟩ := fold_real (s 0) (h 0 le_rfl)
    exact ⟨a, by rw [runM, ha, runM]; simp⟩
  | succ n ih =>
    obtain ⟨a, ha⟩ := ih fun j hj => h j (by omega)
    obtain ⟨b, hb⟩ := fold_real (s (n + 1)) (h _ le_rfl)
    exact ⟨max a b, by rw [runM, ha, hb]; exact (EReal.coe_strictMono.monotone.map_max).symm⟩

theorem mul_sum_real {ι : Type} (S : Finset ι) (c : ℝ) (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha, EReal.left_distrib_of_nonneg_of_ne_top (by exact_mod_cast hc) (EReal.coe_ne_top c), ih]

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem div_pos (y : EReal) (L : ℝ) (h : 0 < L) : Ideal.div y (L : EReal) = y * ((L⁻¹ : ℝ) : EReal) := by
  unfold Ideal.div
  rw [if_neg (by exact_mod_cast h.ne'), EReal.coe_inv]

theorem exp2_real (a : ℝ) : Ideal.exp2 (a : EReal) = ((Real.exp (a * Real.log 2) : ℝ) : EReal) := by
  rw [Ideal.exp2_coe]
  congr 1
  show (2 : ℝ) ^ a = _
  rw [Real.rpow_def_of_pos (by norm_num), mul_comm]

/-- A weight, from its score and a real maximum: a nonnegative real. -/
theorem exp2_shift (x : EReal) (hx : x ≠ ⊤) (a b : ℝ) :
    Ideal.exp2 ((a : EReal) - b) * Ideal.exp2 (x - a) = Ideal.exp2 (x - b) := by
  induction x using EReal.rec with
  | bot => simp
  | top => exact absurd rfl hx
  | coe x =>
    rw [← EReal.coe_sub, ← EReal.coe_sub, ← EReal.coe_sub, exp2_real, exp2_real, exp2_real, ← EReal.coe_mul, ← Real.exp_add]
    congr 2
    ring

theorem runA_closed (s v : ℕ → Fin 512 → EReal) (n : ℕ) (h : ∀ j < n, Fine (s j)) :
    runA s v n = ∑ j ∈ Finset.range n, ∑ t, Ideal.exp2 (s j t - runM s n) * v j t := by
  induction n with
  | zero => simp [runA]
  | succ n ih =>
    rw [runA, ih fun j hj => h j (by omega), Finset.sum_range_succ]
    congr 1
    rcases n with _ | n
    · simp
    · obtain ⟨a, ha⟩ := runM_succ_real s n fun j hj => h j (by omega)
      obtain ⟨b, hb⟩ := runM_succ_real s (n + 1) fun j hj => h j (by omega)
      rw [ha, hb]
      have hc : Ideal.exp2 ((a : EReal) - b) = ((Real.exp ((a - b) * Real.log 2) : ℝ) : EReal) := by
        rw [← EReal.coe_sub, exp2_real]
      rw [hc, mul_sum_real _ _ (Real.exp_pos _).le]
      refine Finset.sum_congr rfl fun j hj => ?_
      rw [mul_sum_real _ _ (Real.exp_pos _).le]
      refine Finset.sum_congr rfl fun t _ => ?_
      rw [← mul_assoc, ← hc, exp2_shift _ ((h j (by have := Finset.mem_range.1 hj; omega)).1 t)]

/-- A score in base two and the same score in base e, both minus infinity where it is masked. -/
def Same (s x : EReal) : Prop := (∃ a : ℝ, s = a ∧ x = ((a * Real.log 2 : ℝ) : EReal)) ∨ (s = ⊥ ∧ x = ⊥)

theorem weight_same (s x : EReal) (h : Same s x) (M X : ℝ) :
    ∃ w : ℝ, 0 ≤ w ∧ (s ≠ ⊥ → 0 < w) ∧ Ideal.exp2 (s - M) = w ∧ Ideal.exp (x - X) = ((Real.exp (M * Real.log 2 - X) * w : ℝ) : EReal) := by
  rcases h with ⟨a, rfl, rfl⟩ | ⟨rfl, rfl⟩
  · refine ⟨Real.exp ((a - M) * Real.log 2), (Real.exp_pos _).le, fun _ => Real.exp_pos _, ?_, ?_⟩
    · rw [← EReal.coe_sub, exp2_real]
    · rw [← EReal.coe_sub, Ideal.exp_coe, ← Real.exp_add]
      congr 2
      ring
  · exact ⟨0, le_rfl, fun h => absurd rfl h, by simp, by simp⟩

/-- A sum over the row is the sum over its blocks, the rest of the row being zero. -/
theorem sum_blocks (f : Fin 4096 → EReal) (n : ℕ) (hn : n < 8) (hz : ∀ T : Fin 4096, 512 * (n + 1) ≤ T.val → f T = 0) :
    ∑ T, f T = ∑ j ∈ Finset.range (n + 1), ∑ t : Fin 512, f ⟨(512 * j + t.val) % 4096, Nat.mod_lt _ (by decide)⟩ := by
  have e1 : ∑ T, f T = ∑ j : Fin 8, ∑ t : Fin 512, f ⟨512 * j.val + t.val, by omega⟩ := by
    rw [← Finset.sum_product', Finset.univ_product_univ]
    refine (Fintype.sum_equiv (finProdFinEquiv (m := 8) (n := 512)).symm _ _ fun T => ?_)
    congr 1
    apply Fin.ext
    show T.val = 512 * (T.val / 512) + T.val % 512
    omega
  have e2 : ∑ j : Fin 8, ∑ t : Fin 512, f ⟨512 * j.val + t.val, by omega⟩
      = ∑ j ∈ Finset.range 8, ∑ t : Fin 512, f ⟨(512 * j + t.val) % 4096, Nat.mod_lt _ (by decide)⟩ := by
    rw [← Fin.sum_univ_eq_sum_range (fun j => ∑ t : Fin 512, f ⟨(512 * j + t.val) % 4096, Nat.mod_lt _ (by decide)⟩) 8]
    refine Finset.sum_congr rfl fun j _ => Finset.sum_congr rfl fun t _ => ?_
    congr 1
    apply Fin.ext
    show 512 * j.val + t.val = (512 * j.val + t.val) % 4096
    omega
  rw [e1, e2]
  refine (Finset.sum_subset (Finset.range_subset_range.2 (by omega)) fun j hj hj' => ?_).symm
  have h1 := Finset.mem_range.1 hj
  have h2 : ¬ j < n + 1 := fun h => hj' (Finset.mem_range.2 h)
  refine Finset.sum_eq_zero fun t _ => hz _ ?_
  show 512 * (n + 1) ≤ (512 * j + t.val) % 4096
  omega

/-- The kernel's quotient of running sums is the softmax's weighted mean. -/
theorem quotient_eq (s v : ℕ → Fin 512 → EReal) (x V : Fin 4096 → EReal) (n : ℕ) (hn : n < 8)
    (hx : ∀ j ≤ n, ∀ t : Fin 512, Same (s j t) (x ⟨(512 * j + t.val) % 4096, Nat.mod_lt _ (by decide)⟩))
    (hz : ∀ T : Fin 4096, 512 * (n + 1) ≤ T.val → x T = ⊥)
    (hf : ∀ j ≤ n, ∃ t, s j t ≠ ⊥)
    (hV : ∀ j ≤ n, ∀ t : Fin 512, v j t = V ⟨(512 * j + t.val) % 4096, Nat.mod_lt _ (by decide)⟩)
    (o : ℕ → Fin 512 → EReal) (ho : ∀ j t, o j t = 1) (X : EReal) (hX : X = Finset.univ.fold max ⊥ x) :
    Ideal.div (runA s v (n + 1)) (runA s o (n + 1)) = ∑ T, V T * Ideal.div (Ideal.exp (x T - X)) (∑ T', Ideal.exp (x T' - X)) := by
  have fine : ∀ j ≤ n, Fine (s j) := fun j hj => ⟨fun t => by
    rcases hx j hj t with ⟨a, h, _⟩ | ⟨h, _⟩ <;> rw [h] <;> simp, hf j hj⟩
  obtain ⟨M, hM⟩ := runM_succ_real s n fine
  have fx : Fine x := by
    constructor
    · intro T
      by_cases hT : 512 * (n + 1) ≤ T.val
      · rw [hz T hT]; simp
      · have := hx (T.val / 512) (by omega) ⟨T.val % 512, Nat.mod_lt _ (by decide)⟩
        have e : (⟨(512 * (T.val / 512) + T.val % 512) % 4096, Nat.mod_lt _ (by decide)⟩ : Fin 4096) = T := by
          apply Fin.ext
          show (512 * (T.val / 512) + T.val % 512) % 4096 = T.val
          omega
        simp only [e] at this
        rcases this with ⟨a, _, h⟩ | ⟨_, h⟩ <;> rw [h]
        · exact EReal.coe_ne_top _
        · simp
    · obtain ⟨t, ht⟩ := hf 0 (Nat.zero_le _)
      rcases hx 0 (Nat.zero_le _) t with ⟨a, _, h⟩ | ⟨h, _⟩
      · exact ⟨_, by rw [h]; exact EReal.coe_ne_bot _⟩
      · exact absurd h ht
  obtain ⟨X', hX'⟩ := fold_real x fx
  rw [hX'] at hX
  subst hX
  set c : ℝ := Real.exp (M * Real.log 2 - X') with hc
  have cpos : 0 < c := Real.exp_pos _
  have hw : ∀ j t, j ≤ n → ∃ w : ℝ, 0 ≤ w ∧ (s j t ≠ ⊥ → 0 < w) ∧ Ideal.exp2 (s j t - M) = w
      ∧ Ideal.exp (x ⟨(512 * j + t.val) % 4096, Nat.mod_lt _ (by decide)⟩ - X') = ((c * w : ℝ) : EReal) :=
    fun j t hj => weight_same _ _ (hx j hj t) M X'
  let w : ℕ → Fin 512 → ℝ := fun j t => if hj : j ≤ n then (hw j t hj).choose else 0
  have w0 : ∀ j t, j ≤ n → 0 ≤ w j t := fun j t hj => by simp only [w, dif_pos hj]; exact (hw j t hj).choose_spec.1
  have w1 : ∀ j t, j ≤ n → s j t ≠ ⊥ → 0 < w j t := fun j t hj => by simp only [w, dif_pos hj]; exact (hw j t hj).choose_spec.2.1
  have w2 : ∀ j t, j ≤ n → Ideal.exp2 (s j t - M) = w j t := fun j t hj => by
    simp only [w, dif_pos hj]; exact (hw j t hj).choose_spec.2.2.1
  have w3 : ∀ j t, j ≤ n → Ideal.exp (x ⟨(512 * j + t.val) % 4096, Nat.mod_lt _ (by decide)⟩ - X') = ((c * w j t : ℝ) : EReal) := fun j t hj => by
    simp only [w, dif_pos hj]; exact (hw j t hj).choose_spec.2.2.2
  let L : ℝ := ∑ j ∈ Finset.range (n + 1), ∑ t, w j t
  have Lpos : 0 < L := by
    obtain ⟨t, ht⟩ := hf 0 (Nat.zero_le _)
    refine Finset.sum_pos' (fun j hj => Finset.sum_nonneg fun t _ => w0 j t (by have := Finset.mem_range.1 hj; omega)) ⟨0, by simp, ?_⟩
    exact Finset.sum_pos' (fun t _ => w0 0 t (Nat.zero_le _)) ⟨t, Finset.mem_univ _, w1 0 t (Nat.zero_le _) ht⟩
  have eL : runA s o (n + 1) = L := by
    rw [runA_closed s o (n + 1) fun j hj => fine j (by omega), hM]
    refine Eq.trans ?_ (coe_sum _ _).symm
    refine Finset.sum_congr rfl fun j hj => ?_
    rw [coe_sum]
    refine Finset.sum_congr rfl fun t _ => ?_
    rw [ho, mul_one, w2 j t (by have := Finset.mem_range.1 hj; omega)]
  have zx : ∀ T : Fin 4096, 512 * (n + 1) ≤ T.val → Ideal.exp (x T - X') = 0 := fun T hT => by rw [hz T hT]; simp
  have eS : ∑ T', Ideal.exp (x T' - X') = ((c * L : ℝ) : EReal) := by
    rw [sum_blocks _ n hn zx]
    have : c * L = ∑ j ∈ Finset.range (n + 1), ∑ t, c * w j t := by
      simp only [L, Finset.mul_sum]
    rw [this, coe_sum]
    refine Finset.sum_congr rfl fun j hj => ?_
    rw [coe_sum]
    refine Finset.sum_congr rfl fun t _ => ?_
    rw [w3 j t (by have := Finset.mem_range.1 hj; omega)]
  rw [eL, eS, runA_closed s v (n + 1) fun j hj => fine j (by omega), hM, div_pos _ _ Lpos, mul_comm, mul_sum_real _ _ (inv_pos.2 Lpos).le,
    sum_blocks _ n hn fun T hT => by rw [zx T hT, div_pos _ _ (mul_pos cpos Lpos), zero_mul, mul_zero]]
  refine Finset.sum_congr rfl fun j hj => ?_
  have hj' : j ≤ n := by have := Finset.mem_range.1 hj; omega
  rw [mul_sum_real _ _ (inv_pos.2 Lpos).le]
  refine Finset.sum_congr rfl fun t _ => ?_
  rw [w2 j t hj', w3 j t hj', div_pos _ _ (mul_pos cpos Lpos), ← hV j hj' t, ← EReal.coe_mul, ← mul_assoc, ← EReal.coe_mul, mul_comm]
  congr 2
  field_simp

end Cert.Proof.Soft

end
-- ==== Proof.Math2.lean ====
/-
  The attention kernel's maxima and accumulators over the extended reals: each row's are the running maximum and the
  running sum of weighted values of its scores.
-/
module

public import proofs.«01_k».proof.Proof.Math1
public import proofs.«01_k».proof.Proof.Soft

@[expose] public section

set_option maxRecDepth 16384
set_option maxHeartbeats 400000

noncomputable section

namespace Cert.Proof.Att

open Cert.KernelIdeal Cert.KernelIdeal.Gen
open Idealize.ShloMosaic Idealize.ShloMosaic.TcCoe
open Cert.Proof.Soft

theorem mask_bot : Named.named (F := Ideal) κ "mask" (φ := .f32) 0xF149F2CA#32 = (⊥ : EReal) := rfl

theorem accSlab_at (s : FVec Ideal S512x512 .f32) (m acc : Vec Ideal S1x512x128 .f32) (v : Vec Ideal S1x512x128 .bf16) (r : Fin 512) (M : EReal)
    (hm : ∀ l : Fin 128, m (ix3 0 r l) = M) (l : Fin 128) :
    accSlab s m acc v (ix3 0 r l) = Ideal.exp2 (M - max M (Finset.univ.fold max ⊥ fun t : Fin 512 => s (ix2 r t))) * acc (ix3 0 r l)
      + ∑ t : Fin 512, Ideal.exp2 (s (ix2 r t) - max M (Finset.univ.fold max ⊥ fun t : Fin 512 => s (ix2 r t))) * v (ix3 0 t l) := by
  unfold accSlab
  rw [accum_at, scaleSlab_at, newMax_at, hm]
  congr 1
  refine Finset.sum_congr rfl fun t _ => ?_
  rw [weightSlab_at s m _ r (fun l => by rw [newMax_at, hm]) t]

/-- The scores of a query of a block against key block `j`, those of the block on the diagonal masked. -/
def sRow (Q : Vec Ideal S1x512x512 .bf16) (K : Vec Ideal S1x4096x512 .bf16) (h n : ℕ) (r : Fin 512) (j : ℕ) (t : Fin 512) : EReal :=
  if j < n then scores (qOf Q h) (blkOf K j h) (ix2 r t) else mscores Q K h n (ix2 r t)

/-- A lane of the values of key block `j`. -/
def vCol (V : Vec Ideal S1x4096x512 .bf16) (h : ℕ) (l : Fin 128) (j : ℕ) (t : Fin 512) : EReal := blkOf V j h (ix3 0 t l)

variable (Q : Vec Ideal S1x512x512 .bf16) (K V : Vec Ideal S1x4096x512 .bf16) (h n : ℕ) (r : Fin 512)

theorem stMax_at (k : ℕ) (hk : k ≤ n) (l : Fin 128) : stMax Q K h m0 k (ix3 0 r l) = runM (sRow Q K h n r) k := by
  induction k with
  | zero => exact mask_bot
  | succ k ih =>
    show maxSlab (scores (qOf Q h) (blkOf K k h)) (stMax Q K h m0 k) (ix3 0 r l) = _
    rw [maxSlab_at, newMax_at, ih (by omega), runM]
    have : (sRow Q K h n r k) = fun t => scores (qOf Q h) (blkOf K k h) (ix2 r t) := funext fun t => if_pos (by omega)
    rw [this]

theorem stAcc_at (k : ℕ) (hk : k ≤ n) (l : Fin 128) : stAcc Q K V h m0 a0 k (ix3 0 r l) = runA (sRow Q K h n r) (vCol V h l) k := by
  induction k with
  | zero =>
    show Ideal.ofBits .f32 0x00000000#32 = 0
    exact Ideal.ofBits_zero_f32
  | succ k ih =>
    show accSlab (scores (qOf Q h) (blkOf K k h)) (stMax Q K h m0 k) (stAcc Q K V h m0 a0 k) (blkOf V k h) (ix3 0 r l) = _
    rw [accSlab_at _ _ _ _ r _ (fun l => stMax_at Q K h n r k (by omega) l), ih (by omega), runA, runM]
    have : (sRow Q K h n r k) = fun t => scores (qOf Q h) (blkOf K k h) (ix2 r t) := funext fun t => if_pos (by omega)
    rw [this]
    rfl

theorem finAcc_at (l : Fin 128) : finAcc Q K V h n (ix3 0 r l) = runA (sRow Q K h n r) (vCol V h l) (n + 1) := by
  unfold finAcc
  rw [accSlab_at _ _ _ _ r _ (fun l => stMax_at Q K h n r n le_rfl l), stAcc_at Q K V h n r n le_rfl, runA, runM]
  have : (sRow Q K h n r n) = fun t => mscores Q K h n (ix2 r t) := funext fun t => if_neg (by omega)
  rw [this]
  rfl

theorem mscores_at (t : Fin 512) : mscores Q K h n (ix2 r t)
    = if t.val / 64 ≤ r.val / 64 then scores (qOf Q h) (blkOf K n h) (ix2 r t) else ⊥ := by
  show Scalar.select (visw (ix2 r t)) (scores (qOf Q h) (blkOf K n h) (ix2 r t)) (Named.named (F := Ideal) κ "mask" (φ := .f32) 0xF149F2CA#32) = _
  rw [visw_at]
  by_cases hc : t.val / 64 ≤ r.val / 64
  · rw [if_pos hc, if_pos hc]; rfl
  · rw [if_neg hc, if_neg hc]; rfl

end Cert.Proof.Att

end
-- ==== Proof.ValueRun.lean ====
/-
  The attention kernel's launch with its value: every output block is what the body leaves there, and the whole result
  array is read from the three operand arrays.
-/
module

public import proofs.«01_k».proof.Proof.FrameRun
public import proofs.«01_k».proof.Proof.Value
public import Idealize.ShloMosaic.Lib.Pipeline.Value
public import Idealize.ShloMosaic.Lib.Pipeline.ValueKit
public import Idealize.ShloMosaic.Lib.Pipeline.Frame

@[expose] public section

set_option maxRecDepth 16384
set_option maxHeartbeats 4000000

noncomputable section

namespace Cert.Proof.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (g : Dev nD → PrngReg)

/-- The region's data of the value run. -/
def vdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t) (grid0.coords t 2).val
  Φ _ := Pipeline.ΦA spec0 c
  q _ := fullShare
  owed _ := 0

theorem vdat_A (c : Dev nD) (w : Fin cfg0.W) : (vdat m 0 c).A w = V m c (Pipeline.arrRef spec0 w) := by dsimp only [vdat]
theorem vdat_after0 (c : Dev nD) (t : Fin cfg0.N) : (vdat m 0 c).after 0 t = iblk m c 0 t := by dsimp only [vdat]
theorem vdat_after1 (c : Dev nD) (t : Fin cfg0.N) : (vdat m 0 c).after 1 t = iblk m c 1 t := by dsimp only [vdat]
theorem vdat_after2 (c : Dev nD) (t : Fin cfg0.N) : (vdat m 0 c).after 2 t = iblk m c 2 t := by dsimp only [vdat]
theorem vdat_after3 (c : Dev nD) (t : Fin cfg0.N) :
    (vdat m 0 c).after 3 t = outBlock (iblk m c 0 t) (iblk m c 1 t) (iblk m c 2 t) (grid0.coords t 2).val := by dsimp only [vdat]
theorem vdat_before0 (c : Dev nD) (t : Fin cfg0.N) (d) : (vdat m 0 c).before 0 t d = iblk m c 0 t :=
  before0_0_of m (vdat m 0 c) (vdat_A m c 0) (vdat_after0 m c) t d
theorem vdat_before1 (c : Dev nD) (t : Fin cfg0.N) (d) : (vdat m 0 c).before 1 t d = iblk m c 1 t :=
  before0_1_of m (vdat m 0 c) (vdat_A m c 1) (vdat_after1 m c) t d
theorem vdat_before2 (c : Dev nD) (t : Fin cfg0.N) (d) : (vdat m 0 c).before 2 t d = iblk m c 2 t :=
  before0_2_of m (vdat m 0 c) (vdat_A m c 2) (vdat_after2 m c) t d

/-- The body at a point: every block and scratch buffer taken out, the run applied, everything put back. -/
theorem valueBody (c : Dev nD) (t : Fin cfg0.N) :
    iprop(Pipeline.ΦA spec0 c ∗ (vdat m 0 c).owesAt () t.castSucc
      ∗ (∃ d, owns (c : Thread nD τ) (st0_0 t) fullShare ((vdat m 0 c).before 0 t d))
      ∗ (∃ d, owns (c : Thread nD τ) (st0_1 t) fullShare ((vdat m 0 c).before 1 t d))
      ∗ (∃ d, owns (c : Thread nD τ) (st0_2 t) fullShare ((vdat m 0 c).before 2 t d))
      ∗ (∃ d, owns (c : Thread nD τ) (st0_3 t) fullShare ((vdat m 0 c).before 3 t d)))
    ⊢ wp frame (wpE (defs₀ (F := F)) Variants.none (c : Thread nD τ) none) Set.univ (bodyAt0 t) (fun _ =>
      iprop(Pipeline.ΦA spec0 c ∗ (vdat m 0 c).owesAt () t.castSucc
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (outBlock (iblk m c 0 t) (iblk m c 1 t) (iblk m c 2 t) (grid0.coords t 2).val))) := by
  simp only [vdat_before0, vdat_before1, vdat_before2]
  unfold Pipeline.ΦA; rw [scopedRest0_eq]
  unfold owns bodyAt0
  iintro ⟨⟨⟨⟨%f7, H7⟩, ⟨%f8, H8⟩, ⟨%f9, H9⟩, ⟨%f10, H10⟩, ⟨%f11, H11⟩⟩, Hp⟩, Ho, ⟨%d0, %f3, %h3, H3⟩, ⟨%d1, %f4, %h4, H4⟩, ⟨%d2, %f5, %h5, H5⟩, ⟨%X, %f6, %h6, H6⟩⟩
  iapply (wp_wand_r Idealize.ShloMosaic.frame (wpE (defs₀ (F := F)) Variants.none (c : Thread nD τ) none) Set.univ)
  isplitl [H3 H4 H5 H6 H7 H8 H9 H10 H11]
  · iapply (valueRun c (grid0.coords t) _ _ _ _ _ _ _ _ (Memref.whole cc0_scratch0) _ (Memref.whole cc0_scratch1) _
      (Memref.whole cc0_scratch2) _ (Memref.whole cc0_scratch3) _ (Memref.whole cc0_scratch4) _ f3 f4 f5 f6 f7 f8 f9 f10 f11 Set.univ)
    simp only [at_, Memref.view_whole, View.set_whole]
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · simp only [at_, Memref.view_whole, View.set_whole]
    iintro %_ ⟨H3, H4, H5, ⟨%g6, H6, %h6'⟩, H7, H8, H9, H10, H11⟩
    isplitl [H7 H8 H9 H10 H11 Hp]
    · isplitr [Hp]
      · isplitl [H7]; · iexact H7
        isplitl [H8]; · iexact H8
        isplitl [H9]; · iexact H9
        isplitl [H10]; · iexact H10
        iexact H11
      iexact Hp
    isplitl [Ho]; · iexact Ho
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    iexists g6; isplitr; swap; (· iexact H6); ipureintro; rw [h6', h3, h4, h5]

theorem valueObligation (c : Dev nD) : BodyObligation (vdat (F := F) m 0 c) (defs₀ (F := F)) Variants.none () Set.univ := fun t => by
  rw [bigSep_W0, bigSep_W0, row]
  exact valueBody m c t

set_option backward.isDefEq.respectTransparency.types false in
/-- The launch: the result array, the arguments as launched. -/
theorem valueLaunch : θ_run defs (onTc (τ := τ) (main (F := F))) ⟨m, fun _ => 0, g⟩ (fun r => ∀ c : Dev nD,
      r.2.mem ((c.tc : Thread nD τ).loc main_v25) = (vdat m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_frame cfgs (vdat m) (0 : Fin 1) launch0 defs₀ Variants.none m g main
    (hbody := fun c => (valueObligation m c).loose) (hshare := fun c => (vdat m 0 c).share_full fun _ => rfl)
    (howed := fun _ _ => rfl) (V := V m) (hmain := hmain m Variants.none) (hA := vdat_A m) (hΦ := fun _ _ => rfl)
    (Q' := _) (hQ' := fun r h => fun c =>
      ⟨(h.1 c).1 3,
       ((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c)⟩)

end Cert.Proof.Att

end
-- ==== Proof.Array.lean ====
/-
  The attention kernel's result array, read from its three operand arrays.
-/
module

public import proofs.«01_k».proof.Proof.ValueRun
public import Idealize.ShloMosaic.Lib.Pipeline.Value
public import Idealize.ShloMosaic.Lib.Pipeline.ValueKit
public import Idealize.ShloMosaic.Lib.Pipeline.Frame

@[expose] public section

set_option maxRecDepth 16384
set_option maxHeartbeats 400000

noncomputable section

namespace Cert.Proof.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (g : Dev nD → PrngReg)

/-- Block `r` of 512 rows of half `p` of a packed array, and sequence `b` of it. -/
def qBlk (A : Vec F S2x16384x512 .bf16) (p r : ℕ) : Vec F S1x512x512 .bf16 := fun x => A (fun a => match a with
    | ⟨0, _⟩ => ⟨p % 2, Nat.mod_lt _ (by decide)⟩
    | ⟨1, _⟩ => ⟨(512 * r + (x 1).val) % 16384, Nat.mod_lt _ (by decide)⟩
    | ⟨2, _⟩ => ⟨(x 2).val, (x 2).isLt⟩)
def kBlk (A : Vec F S2x16384x512 .bf16) (p b : ℕ) : Vec F S1x4096x512 .bf16 := fun x => A (fun a => match a with
    | ⟨0, _⟩ => ⟨p % 2, Nat.mod_lt _ (by decide)⟩
    | ⟨1, _⟩ => ⟨(4096 * b + (x 1).val) % 16384, Nat.mod_lt _ (by decide)⟩
    | ⟨2, _⟩ => ⟨(x 2).val, (x 2).isLt⟩)

/-- The whole result array from the three operand arrays. -/
def outArr (Q K V : Vec F S2x16384x512 .bf16) : Vec F S16384x512 .f32 := fun j =>
  outBlock (qBlk Q ((j 1).val / 256) ((j 0).val / 512)) (kBlk K ((j 1).val / 256) ((j 0).val / 4096)) (kBlk V ((j 1).val / 256) ((j 0).val / 4096))
    ((j 0).val / 512 % 8) (fun a => match a with
    | ⟨0, _⟩ => ⟨(j 0).val % 512, Nat.mod_lt _ (by decide)⟩
    | ⟨1, _⟩ => ⟨(j 1).val % 256, Nat.mod_lt _ (by decide)⟩)

theorem idx0 : ∀ t : Fin cfg0.N, win0_0.index t = ![(grid0.coords t 1).val, 8 * (grid0.coords t 0).val + (grid0.coords t 2).val, 0] := by decide +kernel
theorem idx1 : ∀ t : Fin cfg0.N, win0_1.index t = ![(grid0.coords t 1).val, (grid0.coords t 0).val, 0] := by decide +kernel
theorem idx2 : ∀ t : Fin cfg0.N, win0_2.index t = ![(grid0.coords t 1).val, (grid0.coords t 0).val, 0] := by decide +kernel
theorem idx3 : ∀ t : Fin cfg0.N, win0_3.index t = ![8 * (grid0.coords t 0).val + (grid0.coords t 2).val, (grid0.coords t 1).val] := by decide +kernel

theorem iblk0_eq (c : Dev nD) (t : Fin cfg0.N) : iblk m c 0 t = qBlk (V m c main_v8) (grid0.coords t 1).val (8 * (grid0.coords t 0).val + (grid0.coords t 2).val) := by
  funext x
  have h0 : (grid0.coords t 0).val < 4 := (grid0.coords t 0).isLt
  have h1 : (grid0.coords t 1).val < 2 := (grid0.coords t 1).isLt
  have h2 : (grid0.coords t 2).val < 8 := (grid0.coords t 2).isLt
  have x0 : (x 0).val < 1 := (x 0).isLt
  have x1 : (x 1).val < 512 := (x 1).isLt
  unfold qBlk iblk
  rw [View.read_apply]
  refine congrArg (V m c main_v8) (funext fun a => Fin.ext ?_)
  blk_simp [idx0]
  have hx2 : (x 2).val < 512 := (x 2).isLt
  match a with
  | ⟨0, _⟩ => show (grid0.coords t 1).val * 1 + (x 0).val = (grid0.coords t 1).val % 2; omega
  | ⟨1, _⟩ => show (8 * (grid0.coords t 0).val + (grid0.coords t 2).val) * 512 + (x 1).val = (512 * (8 * (grid0.coords t 0).val + (grid0.coords t 2).val) + (x 1).val) % 16384; omega
  | ⟨2, _⟩ => show 0 * 512 + (x 2).val = (x 2).val; omega

theorem iblk1_eq (c : Dev nD) (t : Fin cfg0.N) : iblk m c 1 t = kBlk (V m c main_v12) (grid0.coords t 1).val (grid0.coords t 0).val := by
  funext x
  have h0 : (grid0.coords t 0).val < 4 := (grid0.coords t 0).isLt
  have h1 : (grid0.coords t 1).val < 2 := (grid0.coords t 1).isLt
  have x0 : (x 0).val < 1 := (x 0).isLt
  have x1 : (x 1).val < 4096 := (x 1).isLt
  unfold kBlk iblk
  rw [View.read_apply]
  refine congrArg (V m c main_v12) (funext fun a => Fin.ext ?_)
  blk_simp [idx1]
  match a with
  | ⟨0, _⟩ => show (grid0.coords t 1).val * 1 + (x 0).val = (grid0.coords t 1).val % 2; omega
  | ⟨1, _⟩ => show (grid0.coords t 0).val * 4096 + (x 1).val = (4096 * (grid0.coords t 0).val + (x 1).val) % 16384; omega
  | ⟨2, _⟩ => show 0 * 512 + (x 2).val = (x 2).val; omega

theorem iblk2_eq (c : Dev nD) (t : Fin cfg0.N) : iblk m c 2 t = kBlk (V m c main_v24) (grid0.coords t 1).val (grid0.coords t 0).val := by
  funext x
  have h0 : (grid0.coords t 0).val < 4 := (grid0.coords t 0).isLt
  have h1 : (grid0.coords t 1).val < 2 := (grid0.coords t 1).isLt
  have x0 : (x 0).val < 1 := (x 0).isLt
  have x1 : (x 1).val < 4096 := (x 1).isLt
  unfold kBlk iblk
  rw [View.read_apply]
  refine congrArg (V m c main_v24) (funext fun a => Fin.ext ?_)
  blk_simp [idx2]
  match a with
  | ⟨0, _⟩ => show (grid0.coords t 1).val * 1 + (x 0).val = (grid0.coords t 1).val % 2; omega
  | ⟨1, _⟩ => show (grid0.coords t 0).val * 4096 + (x 1).val = (4096 * (grid0.coords t 0).val + (x 1).val) % 16384; omega
  | ⟨2, _⟩ => show 0 * 512 + (x 2).val = (x 2).val; omega

/-- An entry of the result array, its place split into the sequence, the half and the block of queries. -/
theorem outArr_at (Q K V : Vec F S2x16384x512 .bf16) (j : S16384x512.Idx) (b p i : ℕ) (y : S512x256.Idx) (hp : p < 2) (hi : i < 8)
    (e0 : (j 0).val = 512 * (8 * b + i) + (y 0).val) (e1 : (j 1).val = 256 * p + (y 1).val) :
    outArr Q K V j = outBlock (qBlk Q p (8 * b + i)) (kBlk K p b) (kBlk V p b) i y := by
  have y0 : (y 0).val < 512 := (y 0).isLt
  have y1 : (y 1).val < 256 := (y 1).isLt
  have r1 : (j 1).val / 256 = p := by omega
  have r2 : (j 0).val / 512 = 8 * b + i := by omega
  have r3 : (j 0).val / 4096 = b := by omega
  have r4 : (8 * b + i) % 8 = i := by omega
  unfold outArr
  rw [r1, r2, r3, r4]
  refine congrArg _ (funext fun a => Fin.ext ?_)
  match a with
  | ⟨0, _⟩ => show (j 0).val % 512 = (y 0).val; omega
  | ⟨1, _⟩ => show (j 1).val % 256 = (y 1).val; omega

/-- The result array after the run. -/
theorem array (c : Dev nD) : (vdat m 0 c).arrAt 3 cfg0.N = outArr (V m c main_v8) (V m c main_v12) (V m c main_v24) := by
  refine (vdat m 0 c).arrAt_eq_of_covers 3 _ (by decide +kernel) fun t hf y => ?_
  rw [vdat_after3, iblk0_eq, iblk1_eq, iblk2_eq]
  have h0 : (grid0.coords t 0).val < 4 := (grid0.coords t 0).isLt
  have h1 : (grid0.coords t 1).val < 2 := (grid0.coords t 1).isLt
  have h2 : (grid0.coords t 2).val < 8 := (grid0.coords t 2).isLt
  have y0 : (y 0).val < 512 := (y 0).isLt
  have y1 : (y 1).val < 256 := (y 1).isLt
  have e0 : (((cfg0.win 3).blk t).view.emb y 0).val = 512 * (8 * (grid0.coords t 0).val + (grid0.coords t 2).val) + (y 0).val := by
    blk_simp [idx3]
    show (8 * (grid0.coords t 0).val + (grid0.coords t 2).val) * 512 + (y 0).val = _
    omega
  have e1 : (((cfg0.win 3).blk t).view.emb y 1).val = 256 * (grid0.coords t 1).val + (y 1).val := by
    blk_simp [idx3]
    show (grid0.coords t 1).val * 256 + (y 1).val = _
    omega
  blk_simp
  exact (outArr_at _ _ _ _ _ _ _ _ h1 h2 e0 e1).symm

end Cert.Proof.Att

end
-- ==== Proof.Heads.lean ====
/-
  One head of the attention call: the quotient of its accumulators is the softmax's weighted mean of the values.
-/
module

public import proofs.«01_k».proof.Proof.Math2
public import proofs.«01_k».proof.Proof.Array

@[expose] public section

set_option maxRecDepth 16384
set_option maxHeartbeats 400000

noncomputable section

namespace Cert.Proof.Att

open Cert.KernelIdeal Cert.KernelIdeal.Gen
open Idealize.ShloMosaic Idealize.ShloMosaic.TcCoe
open Cert.Proof.Soft

theorem word96 : Ideal.ofBits .f32 0x42C00000#32 = ((96 : ℝ) : EReal) := by
  simp [Ideal.ofBits, Ideal.ieee, -EReal.coe_mul]; norm_num

theorem word2 : Ideal.ofBits .f32 0x40000000#32 = ((2 : ℝ) : EReal) := by
  simp [Ideal.ofBits, Ideal.ieee, -EReal.coe_mul]; norm_num

theorem sqrt96 : Ideal.sqrt (Ideal.ofBits .f32 0x42C00000#32) = ((Real.sqrt 96 : ℝ) : EReal) := by
  rw [word96, Ideal.sqrt_coe, if_neg (by norm_num)]

theorem log2 : Ideal.log (Ideal.ofBits .f32 0x40000000#32) = ((Real.log 2 : ℝ) : EReal) := by
  rw [word2, Ideal.log_coe, if_neg (by norm_num)]

theorem qlane (A : Vec Ideal S2x16384x512 .bf16) (p : Fin 2) (R h : ℕ) (hR : R < 32) (hh : h < 4) (r : Fin 512) (d : Fin 128) :
    qOf (qBlk A p.val R) h (ix3 0 r d) = A (ix3 p (⟨512 * R + r.val, by omega⟩ : Fin 16384) (⟨128 * h + d.val, by omega⟩ : Fin 512)) := by
  refine congrArg A (funext fun a => Fin.ext ?_)
  match a with
  | ⟨0, _⟩ => show p.val % 2 = p.val; omega
  | ⟨1, _⟩ => show (512 * R + r.val) % 16384 = 512 * R + r.val; omega
  | ⟨2, _⟩ => show (128 * h + d.val) % 512 = 128 * h + d.val; omega

theorem klane (A : Vec Ideal S2x16384x512 .bf16) (p : Fin 2) (b : Fin 4) (j h : ℕ) (hh : h < 4) (t : Fin 512) (d : Fin 128) :
    blkOf (kBlk A p.val b.val) j h (ix3 0 t d) = A (ix3 p (⟨4096 * b.val + (512 * j + t.val) % 4096, by omega⟩ : Fin 16384) (⟨128 * h + d.val, by omega⟩ : Fin 512)) := by
  refine congrArg A (funext fun a => Fin.ext ?_)
  match a with
  | ⟨0, _⟩ => show p.val % 2 = p.val; omega
  | ⟨1, _⟩ => show (4096 * b.val + (512 * j + t.val) % 4096) % 16384 = 4096 * b.val + (512 * j + t.val) % 4096; omega
  | ⟨2, _⟩ => show (128 * h + d.val) % 512 = 128 * h + d.val; omega

/-- The padded lanes of a product add nothing. -/
theorem sum_pad (f : Fin 96 → EReal) : ∑ d : Fin 128, (if h : d.val < 96 then f ⟨d.val, h⟩ else 0) = ∑ d, f d := by
  have := Fin.sum_univ_add (a := 96) (b := 32) (fun d => if h : d.val < 96 then f ⟨d.val, h⟩ else (0 : EReal))
  refine this.trans ?_
  have z : ∑ i : Fin 32, (if h : (Fin.natAdd 96 i).val < 96 then f ⟨(Fin.natAdd 96 i).val, h⟩ else (0 : EReal)) = 0 :=
    Finset.sum_eq_zero fun i _ => dif_neg (by show ¬ 96 + i.val < 96; omega)
  rw [z, add_zero]
  exact Finset.sum_congr rfl fun i _ => dif_pos i.isLt

/-- A query's score against a key, minus infinity where the key's chunk is after the query's. -/
def rowScore (X0 X1 : Fin 4 → Fin 4096 → Fin 8 → Fin 96 → EReal) (b : Fin 4) (h : Fin 8) (q t : Fin 4096) : EReal :=
  if t.val / 64 ≤ q.val / 64 then
    Ideal.div (∑ d : Fin 96, X0 b q h d * X1 b t h d) (Ideal.sqrt (Ideal.ofBits .f32 0x42C00000#32)) else ⊥

/-- The place of row `r` of query block `i`. -/
def place (i : Fin 8) (r : Fin 512) : Fin 4096 := ⟨512 * i.val + r.val, by omega⟩

/-- Key `t` of key block `j`. -/
def key (j : ℕ) (t : Fin 512) : Fin 4096 := ⟨(512 * j + t.val) % 4096, Nat.mod_lt _ (by decide)⟩

section
variable (A0 A1 A2 : Vec Ideal S2x16384x512 .bf16) (X0 X1 : Fin 4 → Fin 4096 → Fin 8 → Fin 96 → EReal)
variable (p : Fin 2) (b : Fin 4) (i : Fin 8) (h : ℕ) (hh : h < 4) (H : Fin 8) (r : Fin 512)
variable (h0 : ∀ (q : Fin 4096) (d : Fin 128) (y : 4096 * b.val + q.val < 16384) (z : 128 * h + d.val < 512), A0 (ix3 p (⟨4096 * b.val + q.val, y⟩ : Fin 16384) (⟨128 * h + d.val, z⟩ : Fin 512))
  = if hd : d.val < 96 then Ideal.div (X0 b q H ⟨d.val, hd⟩) (Ideal.sqrt (Ideal.ofBits .f32 0x42C00000#32) * Ideal.log (Ideal.ofBits .f32 0x40000000#32)) else (0 : EReal))
variable (h1 : ∀ (q : Fin 4096) (d : Fin 128) (y : 4096 * b.val + q.val < 16384) (z : 128 * h + d.val < 512), A1 (ix3 p (⟨4096 * b.val + q.val, y⟩ : Fin 16384) (⟨128 * h + d.val, z⟩ : Fin 512))
  = if hd : d.val < 96 then X1 b q H ⟨d.val, hd⟩ else (0 : EReal))
variable (f0 : ∀ b q h d, ∃ a : ℝ, X0 b q h d = a) (f1 : ∀ b q h d, ∃ a : ℝ, X1 b q h d = a)

include hh h0 h1 f0 f1 in
/-- A score of the kernel is the reference's in base two. -/
theorem score_same (j : ℕ) (t : Fin 512) : ∃ a : ℝ,
    scores (qOf (qBlk A0 p.val (8 * b.val + i.val)) h) (blkOf (kBlk A1 p.val b.val) j h) (ix2 r t) = a
      ∧ Ideal.div (∑ d : Fin 96, X0 b (place i r) H d * X1 b (key j t) H d) (Ideal.sqrt (Ideal.ofBits .f32 0x42C00000#32)) = ((a * Real.log 2 : ℝ) : EReal) := by
  choose a ha using fun d => f0 b (place i r) H d
  choose k hk using fun d => f1 b (key j t) H d
  have s96 : (0 : ℝ) < Real.sqrt 96 := Real.sqrt_pos.2 (by norm_num)
  have l2 : (0 : ℝ) < Real.log 2 := Real.log_pos (by norm_num)
  refine ⟨∑ d, a d * (Real.sqrt 96 * Real.log 2)⁻¹ * k d, ?_, ?_⟩
  · rw [scores_at, coe_sum, ← sum_pad]
    refine Finset.sum_congr rfl fun d _ => ?_
    rw [qlane A0 p _ h (by omega) hh, klane A1 p b j h hh]
    have e0 := h0 (place i r) d (by have := (place i r).isLt; omega) (by omega)
    have e1 := h1 (key j t) d (by have := (key j t).isLt; omega) (by omega)
    have q0 : (⟨512 * (8 * b.val + i.val) + r.val, by omega⟩ : Fin 16384) = ⟨4096 * b.val + (place i r).val, by have := (place i r).isLt; omega⟩ := by
      apply Fin.ext
      show 512 * (8 * b.val + i.val) + r.val = 4096 * b.val + (512 * i.val + r.val)
      omega
    rw [q0, e0]
    refine (congrArg _ e1).trans ?_
    by_cases hd : d.val < 96
    · rw [dif_pos hd, dif_pos hd, dif_pos hd, ha, hk, sqrt96, log2, ← EReal.coe_mul, div_pos _ _ (mul_pos s96 l2), ← EReal.coe_mul, ← EReal.coe_mul]
    · rw [dif_neg hd, dif_neg hd, dif_neg hd, zero_mul]
  · have : ∑ d : Fin 96, X0 b (place i r) H d * X1 b (key j t) H d = ((∑ d, a d * k d : ℝ) : EReal) := by
      rw [coe_sum]
      exact Finset.sum_congr rfl fun d _ => by rw [ha, hk, EReal.coe_mul]
    rw [this, sqrt96, div_pos _ _ s96, ← EReal.coe_mul]
    congr 1
    rw [Finset.sum_mul, Finset.sum_mul]
    refine Finset.sum_congr rfl fun d _ => ?_
    field_simp

include hh h0 h1 f0 f1 in
theorem head_value (V : Fin 4096 → EReal) (l o : Fin 128)
    (hv : ∀ j t, vCol (kBlk A2 p.val b.val) h l j t = V (key j t)) (ho : ∀ j t, vCol (kBlk A2 p.val b.val) h o j t = 1) :
    Ideal.div (finAcc (qBlk A0 p.val (8 * b.val + i.val)) (kBlk A1 p.val b.val) (kBlk A2 p.val b.val) h i.val (ix3 0 r l))
        (finAcc (qBlk A0 p.val (8 * b.val + i.val)) (kBlk A1 p.val b.val) (kBlk A2 p.val b.val) h i.val (ix3 0 r o))
      = ∑ T, V T * Ideal.div (Ideal.exp (rowScore X0 X1 b H (place i r) T - Finset.univ.fold max ⊥ (rowScore X0 X1 b H (place i r))))
          (∑ T', Ideal.exp (rowScore X0 X1 b H (place i r) T' - Finset.univ.fold max ⊥ (rowScore X0 X1 b H (place i r)))) := by
  have ss := score_same A0 A1 X0 X1 p b i h hh H r h0 h1 f0 f1
  rw [finAcc_at, finAcc_at]
  refine quotient_eq _ _ (rowScore X0 X1 b H (place i r)) V i.val i.isLt ?_ ?_ ?_ (fun j _ t => hv j t) _ ho _ rfl
  · intro j hj t
    show Same _ (rowScore X0 X1 b H (place i r) (key j t))
    obtain ⟨a, ha, hx⟩ := ss j t
    by_cases hlt : j < i.val
    · left
      refine ⟨a, (if_pos hlt).trans ha, (if_pos ?_).trans hx⟩
      show (512 * j + t.val) % 4096 / 64 ≤ (512 * i.val + r.val) / 64
      omega
    · have hji : j = i.val := by omega
      subst hji
      unfold sRow
      rw [if_neg hlt, mscores_at]
      by_cases hc : t.val / 64 ≤ r.val / 64
      · left
        refine ⟨a, (if_pos hc).trans ha, (if_pos ?_).trans hx⟩
        show (512 * i.val + t.val) % 4096 / 64 ≤ (512 * i.val + r.val) / 64
        omega
      · right
        refine ⟨if_neg hc, if_neg ?_⟩
        show ¬ (512 * i.val + t.val) % 4096 / 64 ≤ (512 * i.val + r.val) / 64
        omega
  · intro T hT
    refine if_neg ?_
    show ¬ T.val / 64 ≤ (512 * i.val + r.val) / 64
    omega
  · intro j hj
    refine ⟨0, ?_⟩
    obtain ⟨a, ha, _⟩ := ss j 0
    unfold sRow
    by_cases hlt : j < i.val
    · rw [if_pos hlt, ha]
      exact EReal.coe_ne_bot a
    · have hji : j = i.val := by omega
      subst hji
      rw [if_neg hlt, mscores_at, if_pos (by show 0 / 64 ≤ _; omega), ha]
      exact EReal.coe_ne_bot a
end

end Cert.Proof.Att

end
-- ==== Proof.Operands.lean ====
/-
  The three arrays that the attention call is launched on, read at an index from the queries, keys and values.
-/
module

public import proofs.«01_k».proof.Proof.Array
public import Idealize.ShloMosaic.Lib.Pointwise
public import Idealize.ShloMosaic.Lib.StableHlo.ReadAt

@[expose] public section

set_option maxRecDepth 16384
set_option maxHeartbeats 400000

noncomputable section

namespace Cert.Proof.Att

open Cert.KernelIdeal Cert.KernelIdeal.Gen
open Idealize.ShloMosaic Idealize.ShloMosaic.TcCoe

variable (m : (ℓ : Loc nD τ sig) → Buf (Elt Ideal) ℓ) (c : Dev nD)

theorem zero_word : FloatOps.sitofp (F := Ideal) FTy.f32 0#32 = (0 : EReal) := by
  simp [FloatOps.sitofp]

/-- A lane of a key: the padded lanes are zero. -/
theorem keys_at (p : Fin 2) (r : Fin 16384) (l : Fin 512) :
    V m c main_v12 (ix3 p r l) = if h : l.val % 128 < 96 then
      m ((c.tc : Thread nD τ).loc main_arg1) (ix4 (⟨r.val / 4096, by omega⟩ : Fin 4) (⟨r.val % 4096, by omega⟩ : Fin 4096)
        (⟨p.val * 4 + l.val / 128, by omega⟩ : Fin 8) (⟨l.val % 128, h⟩ : Fin 96)) else (0 : EReal) := by
  unfold V hostOps0 hostOps0_1 hostOps0_2 hostOps0_3 hostOps0_4
  after_reads_at
  by_cases h : l.val % 128 < 96
  · refine (dif_pos ⟨by omega, by omega, by omega, h⟩).trans (Eq.symm ((dif_pos h).trans ?_))
    rfl
  · refine (dif_neg fun h' => h h'.2.2.2).trans (Eq.symm ((dif_neg h).trans ?_))
    exact zero_word.symm

/-- A lane of a query, scaled: the padded lanes are zero. -/
theorem queries_at (p : Fin 2) (r : Fin 16384) (l : Fin 512) :
    V m c main_v8 (ix3 p r l) = if h : l.val % 128 < 96 then
      Ideal.div (m ((c.tc : Thread nD τ).loc main_arg0) (ix4 (⟨r.val / 4096, by omega⟩ : Fin 4) (⟨r.val % 4096, by omega⟩ : Fin 4096)
        (⟨p.val * 4 + l.val / 128, by omega⟩ : Fin 8) (⟨l.val % 128, h⟩ : Fin 96)))
        (Ideal.sqrt (Ideal.ofBits .f32 0x42C00000#32) * Ideal.log (Ideal.ofBits .f32 0x40000000#32)) else (0 : EReal) := by
  unfold V hostOps0 hostOps0_1 hostOps0_2 hostOps0_3 hostOps0_4
  after_reads_at
  by_cases h : l.val % 128 < 96
  · refine (dif_pos ⟨by omega, by omega, by omega, h⟩).trans (Eq.symm ((dif_pos h).trans ?_))
    rfl
  · refine (dif_neg fun h' => h h'.2.2.2).trans (Eq.symm ((dif_neg h).trans ?_))
    exact zero_word.symm

/-- A lane of a value: ones beside the value's own lanes, which come first for an even head and last for an odd one. -/
theorem values_at (p : Fin 2) (r : Fin 16384) (l : Fin 512) :
    V m c main_v24 (ix3 p r l) = if h : l.val % 256 < 64 then
        m ((c.tc : Thread nD τ).loc main_arg2) (ix4 (⟨r.val / 4096, by omega⟩ : Fin 4) (⟨r.val % 4096, by omega⟩ : Fin 4096)
          (⟨(p.val * 2 + l.val / 256) * 2, by omega⟩ : Fin 8) (⟨l.val % 256, h⟩ : Fin 64))
      else if h : l.val % 256 - 64 < 64 then (1 : EReal) else if h : l.val % 256 - 64 - 64 < 64 then (1 : EReal) else
        m ((c.tc : Thread nD τ).loc main_arg2) (ix4 (⟨r.val / 4096, by omega⟩ : Fin 4) (⟨r.val % 4096, by omega⟩ : Fin 4096)
          (⟨(p.val * 2 + l.val / 256) * 2 + 1, by omega⟩ : Fin 8) (⟨l.val % 256 - 64 - 64 - 64, by omega⟩ : Fin 64)) := by
  unfold V hostOps0 hostOps0_1 hostOps0_2 hostOps0_3 hostOps0_4
  after_reads_at
  after_reads_at

end Cert.Proof.Att

end
-- ==== Proof.RefRead.lean ====
/-
  The reference's attention over the extended reals, read at an index.
-/
module

public import proofs.«01_k».proof.Proof.Gen.ReferenceIdeal
public import proofs.«01_k».proof.Proof.Gen.ReferenceIdeal.Run
public import proofs.«01_k».proof.Proof.Gen.ReferenceIdeal.Read
public import Idealize.ShloMosaic.Lib.Pointwise

@[expose] public section

set_option maxRecDepth 16384
set_option maxHeartbeats 400000

noncomputable section

namespace Cert.Proof.Ref

open Cert.ReferenceIdeal Cert.ReferenceIdeal.Gen Cert.ReferenceIdeal.Read
open Idealize.ShloMosaic Idealize.ShloMosaic.TcCoe

variable (x0 x1 : (⟨S4x4096x8x96, .f32⟩ : BufTy).Contents (Elt Ideal)) (x2 : (⟨S4x4096x8x64, .f32⟩ : BufTy).Contents (Elt Ideal))

/-- A query's score against a key, minus infinity where the key's chunk is after the query's. -/
def score (b : Fin 4) (h : Fin 8) (q t : Fin 4096) : EReal :=
  if t.val / 64 ≤ q.val / 64 then
    Ideal.div (∑ d : Fin 96, x0 (ix4 b q h d) * x1 (ix4 b t h d)) (Ideal.sqrt (Ideal.ofBits .f32 0x42C00000#32)) else ⊥

theorem div_word : ∀ t : Fin 4096, IntOp.divsi ArithUnit.host (BitVec.ofNat 32 t.val) 64#32 = BitVec.ofNat 32 (t.val / 64) := by
  decide +kernel

theorem word_le : ∀ a b : Fin 64, IntOp.cmpi CmpIPredicate.sle (BitVec.ofNat 32 a.val) (BitVec.ofNat 32 b.val) = if a.val ≤ b.val then 1#1 else 0#1 := by
  decide +kernel

theorem ninf : Ideal.ofBits FTy.f32 4286578688#32 = ⊥ := by simp [Ideal.ofBits, Ideal.ieee]

theorem v7_at (q t : Fin 4096) : val_main_v7 (F := Ideal) (ix2 q t) = if t.val / 64 ≤ q.val / 64 then 1#1 else 0#1 := by
  pointwise [val_main_v7, val_main_v6, val_main_v5, val_main_v4, val_main_v3, val_main_v2, val_main_v1, val_main_c, val_main_v0]
  rw [div_word t, div_word q]
  exact word_le ⟨t.val / 64, by omega⟩ ⟨q.val / 64, by omega⟩

theorem v13_at (b : Fin 4) (h : Fin 8) (q t : Fin 4096) : val_main_v13 (F := Ideal) x0 x1 (ix4 b h q t) = score x0 x1 b h q t := by
  have e : val_main_call0_v1 (F := Ideal) (ix4 b h q t) = val_main_v7 (F := Ideal) (ix2 q t) := by
    pointwise [val_main_call0_v1, val_main_v12]
  rw [val_main_v13_apply, e, v7_at]
  pointwise [val_main_v11, val_main_v10, val_main_v9, val_main_v8, val_main_cst, val_main_call0_v2, val_main_call0_v0, val_main_cst_0]
  unfold score
  by_cases hc : t.val / 64 ≤ q.val / 64
  · rw [if_pos hc, if_pos hc]; rfl
  · rw [if_neg hc, if_neg hc]; exact ninf

theorem max_row (y : FVec Ideal S4x8x4096x4096 .f32) (z : FVec Ideal S_ .f32) (b : Fin 4) (h : Fin 8) (q : Fin 4096) :
    Host.reduce FloatOps.maximumf y z reducesTo_S4x8x4096x4096_S4x8x4096_d3 h_S_ (ix3 b h q)
      = Finset.univ.fold max (z (Shape.Idx.first h_S_)) (fun t : Fin 4096 => y (ix4 b h q t)) := by
  have hr : S4x8x4096x4096.Reduces [3] S4x8x4096 := by decide
  refine (Host.reduce_eq_fold_single (FloatOps.maximumf (F := Ideal) (φ := .f32)) y z _ hr h_S_ (ix3 b h q)).trans ?_
  refine congrArg (fun g => Finset.fold max (z (Shape.Idx.first h_S_)) g (Finset.univ : Finset (Fin 4096))) (funext fun t => congrArg y (funext fun a => Fin.ext ?_))
  rw [Shape.Reduces.lift_val]
  unfold Shape.Reduces.liftVal
  match a with
  | ⟨0, _⟩ => rfl
  | ⟨1, _⟩ => rfl
  | ⟨2, _⟩ => rfl
  | ⟨3, _⟩ => rfl

theorem v16_at (b : Fin 4) (h : Fin 8) (q : Fin 4096) :
    val_main_v16 (F := Ideal) x0 x1 (ix3 b h q) = Finset.univ.fold max ⊥ (score x0 x1 b h q) := by
  have e : val_main_v14 (F := Ideal) x0 x1 (ix3 b h q) = Finset.univ.fold max ⊥ (score x0 x1 b h q) := by
    have hs : score x0 x1 b h q = fun t => val_main_v13 (F := Ideal) x0 x1 (ix4 b h q t) := funext fun t => (v13_at x0 x1 b h q t).symm
    rw [hs]
    unfold val_main_v14
    generalize val_main_v13 (F := Ideal) x0 x1 = y
    rw [max_row]
    refine congrArg (fun z => Finset.fold max z (fun t : Fin 4096 => y (ix4 b h q t)) Finset.univ) ?_
    exact ninf
  rw [val_main_v16_apply, e]
  refine (congrArg (fun z => max z (Finset.univ.fold max ⊥ (score x0 x1 b h q))) (show val_main_v15 (F := Ideal) (ix3 b h q) = ⊥ from ?_)).trans ?_
  · pointwise [val_main_v15, val_main_cst_2]
    exact ninf
  · exact bot_sup_eq _

theorem v20_at (b : Fin 4) (h : Fin 8) (q t : Fin 4096) :
    val_main_v20 (F := Ideal) x0 x1 (ix4 b h q t) = Ideal.exp (score x0 x1 b h q t - Finset.univ.fold max ⊥ (score x0 x1 b h q)) := by
  rw [← v13_at, ← v16_at]
  pointwise [val_main_v20, val_main_v19, val_main_v18, val_main_v17]

theorem v24_at (b : Fin 4) (h : Fin 8) (q t : Fin 4096) :
    val_main_v24 (F := Ideal) x0 x1 (ix4 b h q t) = Ideal.div (val_main_v20 (F := Ideal) x0 x1 (ix4 b h q t)) (∑ u : Fin 4096, val_main_v20 (F := Ideal) x0 x1 (ix4 b h q u)) := by
  pointwise [val_main_v24, val_main_v23, val_main_v22, val_main_v21, val_main_cst_3]

theorem v27_at (j0 : Fin 16384) (j1 : Fin 512) :
    val_main_v27 (F := Ideal) x0 x1 x2 (ix2 j0 j1) = ∑ t : Fin 4096, x2 (ix4 (⟨j0.val / 4096, by omega⟩ : Fin 4) t (⟨j1.val / 64, by omega⟩ : Fin 8) (⟨j1.val % 64, by omega⟩ : Fin 64))
      * val_main_v24 (F := Ideal) x0 x1 (ix4 (⟨j0.val / 4096, by omega⟩ : Fin 4) (⟨j1.val / 64, by omega⟩ : Fin 8) (⟨j0.val % 4096, by omega⟩ : Fin 4096) t) := by
  pointwise [val_main_v27, val_main_v26, val_main_v25]

end Cert.Proof.Ref

end
-- ==== Proof.Goal.lean ====
/-
  The attention kernel computes the reference's attention over the extended reals.
-/
module

public import proofs.«01_k».proof.Defs
public import proofs.«01_k».proof.Proof.Heads
public import proofs.«01_k».proof.Proof.Operands
public import proofs.«01_k».proof.Proof.RefRead
public import proofs.«01_k».proof.Proof.Gen.Pre_finite_qk
public import proofs.«01_k».proof.Proof.Gen.ReferenceIdeal.Run
public import proofs.«01_k».proof.Proof.Gen.ReferenceIdeal.Read
public import proofs.«01_k».proof.Proof.ValueRun
public import Idealize.ShloMosaic.Lib.ReduceAll

@[expose] public section

set_option maxRecDepth 16384
set_option maxHeartbeats 400000

noncomputable section

namespace Cert.Proof.Att

open Cert.KernelIdeal Cert.KernelIdeal.Gen
open Idealize.ShloMosaic Idealize.ShloMosaic.TcCoe Idealize.SL.Sem
open Cert.Proof.Soft

theorem real_of_lt (x : EReal) (h : FloatOps.cmpf (F := Ideal) (φ := .f32) .olt (FloatOps.absf x) (Ideal.ofBits .f32 0x7F800000#32) = 1#1) : ∃ a : ℝ, x = a := by
  have e : Ideal.ofBits .f32 0x7F800000#32 = (⊤ : EReal) := by simp [Ideal.ofBits, Ideal.ieee]
  have h' : max x (-x) < ⊤ := by
    rw [e] at h
    have h2 : Ideal.cmp .olt (max x (-x)) ⊤ = 1#1 := h
    by_contra hn
    simp only [Ideal.cmp, decide_eq_false hn] at h2
    exact absurd h2 (by decide)
  induction x using EReal.rec with
  | bot => simp at h'
  | top => simp at h'
  | coe a => exact ⟨a, rfl⟩

theorem finite_of_pre (x0 x1 : FVec Ideal Cert.Pre_finite_qk.S4x4096x8x96 .f32) (x2 : FVec Ideal Cert.Pre_finite_qk.S4x4096x8x64 .f32)
    (h : (Cert.Pre_finite_qk.fn (F := Ideal) x0 x1 x2) = fun _ => 1#1) :
    (∀ j, ∃ a : ℝ, x0 j = a) ∧ ∀ j, ∃ a : ℝ, x1 j = a := by
  have h0 := congrFun h (Shape.Idx.first Cert.Pre_finite_qk.Facts.h_S_)
  dsimp only [Cert.Pre_finite_qk.fn] at h0
  have h1 := IntOp.andi_eq_one.1 h0
  have sub : Subsingleton Cert.Pre_finite_qk.S_.Idx := ⟨fun a b => funext fun k => k.elim0⟩
  exact ⟨fun j => real_of_lt _ (Host.reduce_andi_all _ _ _ _ _ h1.1 j), fun j => real_of_lt _ (Host.reduce_andi_all _ _ _ _ _ h1.2 j)⟩

variable (m : (ℓ : Loc nD τ sig) → Buf (Elt Ideal) ℓ) (c : Dev nD)

/-- The queries, keys and values by coordinates. -/
def arg0 (b : Fin 4) (q : Fin 4096) (h : Fin 8) (d : Fin 96) : EReal := m ((c.tc : Thread nD τ).loc main_arg0) (ix4 b q h d)
def arg1 (b : Fin 4) (q : Fin 4096) (h : Fin 8) (d : Fin 96) : EReal := m ((c.tc : Thread nD τ).loc main_arg1) (ix4 b q h d)
def arg2 (b : Fin 4) (q : Fin 4096) (h : Fin 8) (d : Fin 64) : EReal := m ((c.tc : Thread nD τ).loc main_arg2) (ix4 b q h d)

/-- The softmax's weighted mean of a head's values. -/
def mean (b : Fin 4) (q : Fin 4096) (h : Fin 8) (d : Fin 64) : EReal :=
  ∑ T, arg2 m c b T h d * Ideal.div (Ideal.exp (rowScore (arg0 m c) (arg1 m c) b h q T - Finset.univ.fold max ⊥ (rowScore (arg0 m c) (arg1 m c) b h q)))
    (∑ T', Ideal.exp (rowScore (arg0 m c) (arg1 m c) b h q T' - Finset.univ.fold max ⊥ (rowScore (arg0 m c) (arg1 m c) b h q)))

section
variable (f0 : ∀ b q h d, ∃ a : ℝ, arg0 m c b q h d = a) (f1 : ∀ b q h d, ∃ a : ℝ, arg1 m c b q h d = a)
variable (p : Fin 2) (b : Fin 4) (i : Fin 8) (r : Fin 512)

include f0 f1 in
/-- An entry of a head. -/
theorem head_mean (h : ℕ) (hh : h < 4) (l o : Fin 128) (d : Fin 64)
    (hl : (h % 2 = 0 ∧ l.val = d.val ∧ o.val = 64) ∨ (h % 2 = 1 ∧ l.val = 64 + d.val ∧ o.val = 0)) :
    Ideal.div (finAcc (qBlk (V m c main_v8) p.val (8 * b.val + i.val)) (kBlk (V m c main_v12) p.val b.val) (kBlk (V m c main_v24) p.val b.val) h i.val (ix3 0 r l))
        (finAcc (qBlk (V m c main_v8) p.val (8 * b.val + i.val)) (kBlk (V m c main_v12) p.val b.val) (kBlk (V m c main_v24) p.val b.val) h i.val (ix3 0 r o))
      = mean m c b (place i r) ⟨4 * p.val + h, by omega⟩ d := by
  refine head_value (V m c main_v8) (V m c main_v12) (V m c main_v24) (arg0 m c) (arg1 m c) p b i h hh ⟨4 * p.val + h, by omega⟩ r ?_ ?_ f0 f1
    (fun T => arg2 m c b T ⟨4 * p.val + h, by omega⟩ d) l o ?_ ?_
  · intro q d y z
    rw [queries_at]
    by_cases hd : d.val < 96
    · refine (dif_pos (show (128 * h + d.val) % 128 < 96 by omega)).trans (Eq.symm ((dif_pos hd).trans ?_))
      refine congrArg (fun x => Ideal.div x _) (congrArg (m ((c.tc : Thread nD τ).loc main_arg0)) (funext fun a => ?_))
      refine Fin.ext ?_
      match a with
      | ⟨0, _⟩ => show b.val = (4096 * b.val + q.val) / 4096; omega
      | ⟨1, _⟩ => show q.val = (4096 * b.val + q.val) % 4096; omega
      | ⟨2, _⟩ => show 4 * p.val + h = p.val * 4 + (128 * h + d.val) / 128; omega
      | ⟨3, _⟩ => show d.val = (128 * h + d.val) % 128; omega
    · exact (dif_neg (show ¬ (128 * h + d.val) % 128 < 96 by omega)).trans (Eq.symm (dif_neg hd))
  · intro q d y z
    rw [keys_at]
    by_cases hd : d.val < 96
    · refine (dif_pos (show (128 * h + d.val) % 128 < 96 by omega)).trans (Eq.symm ((dif_pos hd).trans ?_))
      refine congrArg (m ((c.tc : Thread nD τ).loc main_arg1)) (funext fun a => ?_)
      refine Fin.ext ?_
      match a with
      | ⟨0, _⟩ => show b.val = (4096 * b.val + q.val) / 4096; omega
      | ⟨1, _⟩ => show q.val = (4096 * b.val + q.val) % 4096; omega
      | ⟨2, _⟩ => show 4 * p.val + h = p.val * 4 + (128 * h + d.val) / 128; omega
      | ⟨3, _⟩ => show d.val = (128 * h + d.val) % 128; omega
    · exact (dif_neg (show ¬ (128 * h + d.val) % 128 < 96 by omega)).trans (Eq.symm (dif_neg hd))
  · intro j t
    unfold vCol
    rw [klane _ p b j h hh, values_at]
    have hd := d.isLt
    have hk : (512 * j + t.val) % 4096 < 4096 := Nat.mod_lt _ (by decide)
    rcases hl with ⟨hm, hl, _⟩ | ⟨hm, hl, _⟩
    · refine (dif_pos (show (128 * h + l.val) % 256 < 64 by omega)).trans ?_
      refine congrArg (m ((c.tc : Thread nD τ).loc main_arg2)) (funext fun a => ?_)
      refine Fin.ext ?_
      match a with
      | ⟨0, _⟩ => show (4096 * b.val + (512 * j + t.val) % 4096) / 4096 = b.val; omega
      | ⟨1, _⟩ => show (4096 * b.val + (512 * j + t.val) % 4096) % 4096 = (512 * j + t.val) % 4096; omega
      | ⟨2, _⟩ => show (p.val * 2 + (128 * h + l.val) / 256) * 2 = 4 * p.val + h; omega
      | ⟨3, _⟩ => show (128 * h + l.val) % 256 = d.val; omega
    · refine (dif_neg (show ¬ (128 * h + l.val) % 256 < 64 by omega)).trans ?_
      refine (dif_neg (show ¬ (128 * h + l.val) % 256 - 64 < 64 by omega)).trans ?_
      refine (dif_neg (show ¬ (128 * h + l.val) % 256 - 64 - 64 < 64 by omega)).trans ?_
      refine congrArg (m ((c.tc : Thread nD τ).loc main_arg2)) (funext fun a => ?_)
      refine Fin.ext ?_
      match a with
      | ⟨0, _⟩ => show (4096 * b.val + (512 * j + t.val) % 4096) / 4096 = b.val; omega
      | ⟨1, _⟩ => show (4096 * b.val + (512 * j + t.val) % 4096) % 4096 = (512 * j + t.val) % 4096; omega
      | ⟨2, _⟩ => show (p.val * 2 + (128 * h + l.val) / 256) * 2 + 1 = 4 * p.val + h; omega
      | ⟨3, _⟩ => show (128 * h + l.val) % 256 - 64 - 64 - 64 = d.val; omega
  · intro j t
    unfold vCol
    rw [klane _ p b j h hh, values_at]
    rcases hl with ⟨hm, _, ho⟩ | ⟨hm, _, ho⟩
    · refine (dif_neg (show ¬ (128 * h + o.val) % 256 < 64 by omega)).trans ?_
      exact dif_pos (show (128 * h + o.val) % 256 - 64 < 64 by omega)
    · refine (dif_neg (show ¬ (128 * h + o.val) % 256 < 64 by omega)).trans ?_
      refine (dif_neg (show ¬ (128 * h + o.val) % 256 - 64 < 64 by omega)).trans ?_
      exact dif_pos (show (128 * h + o.val) % 256 - 64 - 64 < 64 by omega)

include f0 f1 in
/-- Two neighbouring heads. -/
theorem pair_mean (h : ℕ) (hh : h + 1 < 4) (he : h % 2 = 0) (l : Fin 128) :
    pairOut (finAcc (qBlk (V m c main_v8) p.val (8 * b.val + i.val)) (kBlk (V m c main_v12) p.val b.val) (kBlk (V m c main_v24) p.val b.val) h i.val)
        (finAcc (qBlk (V m c main_v8) p.val (8 * b.val + i.val)) (kBlk (V m c main_v12) p.val b.val) (kBlk (V m c main_v24) p.val b.val) (h + 1) i.val) (ix2 r l)
      = mean m c b (place i r) ⟨4 * p.val + h + l.val / 64, by omega⟩ ⟨l.val % 64, Nat.mod_lt _ (by decide)⟩ := by
  rw [pairOut_at]
  by_cases hl : l.val < 64
  · rw [if_pos hl, head_mean m c f0 f1 p b i r h (by omega) l 64 ⟨l.val % 64, Nat.mod_lt _ (by decide)⟩ (.inl ⟨he, by show l.val = l.val % 64; omega, rfl⟩)]
    congr 1
    apply Fin.ext
    show 4 * p.val + h = 4 * p.val + h + l.val / 64
    omega
  · rw [if_neg hl, head_mean m c f0 f1 p b i r (h + 1) hh l 0 ⟨l.val % 64, Nat.mod_lt _ (by decide)⟩ (.inr ⟨by omega, by show l.val = 64 + l.val % 64; omega, rfl⟩)]
    congr 1
    apply Fin.ext
    show 4 * p.val + (h + 1) = 4 * p.val + h + l.val / 64
    omega
end

/-- An entry of the result. -/
theorem out_mean (f0 : ∀ b q h d, ∃ a : ℝ, arg0 m c b q h d = a) (f1 : ∀ b q h d, ∃ a : ℝ, arg1 m c b q h d = a) (j0 : Fin 16384) (j1 : Fin 512) :
    outArr (V m c main_v8) (V m c main_v12) (V m c main_v24) (ix2 j0 j1)
      = mean m c (⟨j0.val / 4096, by omega⟩ : Fin 4) (⟨j0.val % 4096, by omega⟩ : Fin 4096) (⟨j1.val / 64, by omega⟩ : Fin 8) (⟨j1.val % 64, by omega⟩ : Fin 64) := by
  let b : Fin 4 := ⟨j0.val / 4096, by omega⟩
  let i : Fin 8 := ⟨j0.val % 4096 / 512, by omega⟩
  let r : Fin 512 := ⟨j0.val % 512, by omega⟩
  let p : Fin 2 := ⟨j1.val / 256, by omega⟩
  let l : Fin 256 := ⟨j1.val % 256, by omega⟩
  rw [outArr_at (V m c main_v8) (V m c main_v12) (V m c main_v24) (ix2 j0 j1) b.val p.val i.val (ix2 r l) p.isLt i.isLt
    (by show j0.val = 512 * (8 * (j0.val / 4096) + j0.val % 4096 / 512) + j0.val % 512; omega)
    (by show j1.val = 256 * (j1.val / 256) + j1.val % 256; omega)]
  have ep : place i r = (⟨j0.val % 4096, by omega⟩ : Fin 4096) := by
    apply Fin.ext
    show 512 * (j0.val % 4096 / 512) + j0.val % 512 = j0.val % 4096
    omega
  let l' : Fin 128 := ⟨j1.val % 256 % 128, by omega⟩
  have ez : (fun a => match a with
      | ⟨0, _⟩ => ⟨((ix2 r l : S512x256.Idx) 0).val, ((ix2 r l : S512x256.Idx) 0).isLt⟩
      | ⟨1, _⟩ => ⟨((ix2 r l : S512x256.Idx) 1).val % 128, Nat.mod_lt _ (by decide)⟩ : S512x128.Idx) = ix2 r l' := by
    funext a
    match a with
    | ⟨0, _⟩ => rfl
    | ⟨1, _⟩ => rfl
  unfold outBlock
  dsimp only
  by_cases hl : j1.val % 256 < 128
  · refine (if_pos hl).trans ((congrArg _ ez).trans ((pair_mean m c f0 f1 p b i r 0 (by omega) rfl l').trans ?_))
    rw [ep]
    congr 1
    · apply Fin.ext
      show 4 * (j1.val / 256) + 0 + j1.val % 256 % 128 / 64 = j1.val / 64
      omega
    · apply Fin.ext
      show j1.val % 256 % 128 % 64 = j1.val % 64
      omega
  · refine (if_neg hl).trans ((congrArg _ ez).trans ((pair_mean m c f0 f1 p b i r 2 (by omega) rfl l').trans ?_))
    rw [ep]
    congr 1
    · apply Fin.ext
      show 4 * (j1.val / 256) + 2 + j1.val % 256 % 128 / 64 = j1.val / 64
      omega
    · apply Fin.ext
      show j1.val % 256 % 128 % 64 = j1.val % 64
      omega

/-- The result array is the reference's. -/
theorem out_ref (f0 : ∀ b q h d, ∃ a : ℝ, arg0 m c b q h d = a) (f1 : ∀ b q h d, ∃ a : ℝ, arg1 m c b q h d = a) :
    outArr (V m c main_v8) (V m c main_v12) (V m c main_v24) = Cert.ReferenceIdeal.Read.val_main_v27 (F := Ideal) (m ((c.tc : Thread nD τ).loc main_arg0))
      (m ((c.tc : Thread nD τ).loc main_arg1)) (m ((c.tc : Thread nD τ).loc main_arg2)) := by
  funext j
  have ej : j = ix2 (j 0) (j 1) := funext fun a => match a with
    | ⟨0, _⟩ => rfl
    | ⟨1, _⟩ => rfl
  rw [ej]
  refine (out_mean m c f0 f1 (j 0) (j 1)).trans (Eq.symm ((Ref.v27_at _ _ _ (j 0) (j 1)).trans ?_))
  refine Finset.sum_congr rfl fun t _ => ?_
  refine congrArg _ ((Ref.v24_at _ _ _ _ _ _).trans ?_)
  rw [Ref.v20_at]
  refine congrArg₂ Ideal.div rfl (Finset.sum_congr rfl fun u _ => ?_)
  rw [Ref.v20_at]
  rfl

/-- The attention kernel's result is the reference's, for real queries and keys. -/
theorem algebraic : Cert.algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) := by
  intro m g m' g' hpre hargs
  have key : ∀ c : Dev nD, outArr (V m c main_v8) (V m c main_v12) (V m c main_v24) = Cert.ReferenceIdeal.Value.res_main_v27 m' c := by
    intro c
    obtain ⟨f0, f1⟩ := finite_of_pre _ _ _ (hpre c)
    refine (out_ref m c (fun b q h d => f0 _) (fun b q h d => f1 _)).trans (Eq.symm ((Cert.ReferenceIdeal.Read.val_main_v27_eq m' c).trans ?_))
    rw [(hargs c).1, (hargs c).2.1, (hargs c).2.2]
  refine ⟨fun c => outArr (V m c main_v8) (V m c main_v12) (V m c main_v24), ?_, ?_⟩
  · exact (θ_run defs _ _).mono (fun r h c => ⟨(h c).1.trans (array m c), (h c).2⟩) (valueLaunch m g)
  · exact (θ_run Cert.ReferenceIdeal.defs _ _).mono (fun r h c => ⟨(h c).1.trans (key c).symm, (h c).2⟩) (Cert.ReferenceIdeal.Value.run m' g')

end Cert.Proof.Att

end
-- ==== Proof.InBody.lean ====
/-
  The projection call's body: what a point leaves in the result's block and in the normalised rows it keeps.
-/
module

public import proofs.«01_k».proof.Proof.Gen.Kernel3Ideal.Value
public import Idealize.ShloMosaic.Lib.Pipeline.ValueKit
public import Idealize.ShloMosaic.Lib.Pointwise

@[expose] public section

set_option maxRecDepth 16384
set_option maxHeartbeats 400000

noncomputable section

namespace Cert.Proof.Inp

open Cert.Kernel3Ideal Cert.Kernel3Ideal.Gen
open Idealize.ShloMosaic Idealize.ShloMosaic.TcCoe Idealize.ShloMosaic.Tactic

section Pieces

variable {F : FTy → Type} [FloatOps F]
variable (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1x4096x1024 .bf16) (harg6 : arg6.IsWhole) (arg7 : Memref sig .tc .vmem S1024x4096 .bf16) (harg7 : arg7.IsWhole) (arg8 : Memref sig .tc .vmem S1024x1024 .bf16) (harg8 : arg8.IsWhole)
variable (x0 : Vec F S1024x1024 .f32) (x1 : Vec F S1x1x1024 .f32) (x2 : Vec F S1x1x1024 .f32) (x3 : Vec F S1x1024 .f32) (x4 : Vec F S1x4096x1024 .bf16)

theorem out_first (hc0 : cond0_0 i) :
    out0_A_5 c i arg2 harg2 arg3 harg3 arg4 harg4 arg5 harg5 arg6 harg6 arg7 harg7 arg8 harg8 hc0 x0 x1 x2 x3 x4 = k0_pay2 (k0_pay1 x0 x3 x1 x2) x4 := by
  frame_out

theorem kept_first (hc0 : cond0_0 i) :
    sout0_A_0 c i arg2 harg2 arg3 harg3 arg4 harg4 arg5 harg5 arg6 harg6 arg7 harg7 arg8 harg8 hc0 x0 x1 x2 x3 x4 = k0_pay1 x0 x3 x1 x2 := by
  frame_out

theorem out_second (hc0 : ¬cond0_0 i) (xs0 : Vec F S1024x1024 .bf16) :
    out0_B_5 c i arg2 harg2 arg3 harg3 arg4 harg4 arg5 harg5 arg6 harg6 arg7 harg7 arg8 harg8 hc0 x0 x1 x2 x3 x4 xs0 = k0_pay2 xs0 x4 := by
  frame_out

end Pieces

/-- An entry of the normalised and shifted rows. -/
theorem rows_at (v9 : Vec Ideal S1024x1024 .f32) (v21 : Vec Ideal S1x1024 .f32) (v25 v31 : Vec Ideal S1x1x1024 .f32) (r k : Fin 1024) :
    k0_pay1 (F := Ideal) v9 v21 v25 v31 (ix2 r k)
      = v9 (ix2 r k) * Ideal.rsqrt (Ideal.div (∑ l : Fin 1024, v9 (ix2 r l) * v9 (ix2 r l)) (Ideal.ofBits .f32 0x44800000#32) + Ideal.ofBits .f32 0x358637BD#32)
        * v21 (ix2 (0 : Fin 1) k) * (Ideal.ofBits .f32 0x3F800000#32 + v25 (ix3 (0 : Fin 1) (0 : Fin 1) k)) + v31 (ix3 (0 : Fin 1) (0 : Fin 1) k) := by
  pointwise [k0_pay1]

/-- An entry of the product with a block of the weights' rows. -/
theorem prod_at (v3 : Vec Ideal S1024x1024 .bf16) (v4 : Vec Ideal S1x4096x1024 .bf16) (r : Fin 1024) (j : Fin 4096) :
    k0_pay2 (F := Ideal) v3 v4 (ix2 r j) = ∑ k : Fin 1024, v3 (ix2 r k) * v4 (ix3 (0 : Fin 1) j k) := by
  pointwise [k0_pay2]

end Cert.Proof.Inp

end
-- ==== Proof.Pick.lean ====
/-
  The order that the projection call's result has the projection's columns in.
-/
module

public import Idealize.ShloMosaic.Lib.Pointwise

@[expose] public section

noncomputable section

namespace Cert.Proof

/-- The column that place `j` holds; 7712, one past the last, where the place is padded with zeros. -/
def src (j : ℕ) : ℕ :=
  if j < 2560 then 416 + j
  else if j < 7168 then 3104 + (j - 2560)
  else if j < 7552 then j - 7168
  else if j < 7616 then 7712
  else if j < 7648 then 384 + (j - 7616)
  else if j < 7744 then 7712
  else if j < 7760 then 400 + (j - 7744)
  else if j < 7776 then 384 + (j - 7760)
  else if j < 7808 then 7712
  else if j < 7936 then 2976 + (j - 7808)
  else 7712

/-- The entry at place `j` of a row that has entries `Z` in the columns' own order. -/
def pick (Z : Fin 7712 → EReal) (j : ℕ) : EReal := if h : src j < 7712 then Z ⟨src j, h⟩ else 0

theorem pick_of (Z : Fin 7712 → EReal) (j n : ℕ) (hs : src j = n) (hn : n < 7712) : pick Z j = Z ⟨n, hn⟩ := by
  subst hs
  exact dif_pos hn

theorem pick_pad (Z : Fin 7712 → EReal) (j : ℕ) (hs : src j = 7712) : pick Z j = 0 :=
  dif_neg (by omega)

/-- A product with reordered columns is the reordered product. -/
theorem pick_sum (h : Fin 1024 → EReal) (w : Fin 1024 → Fin 7712 → EReal) (j : ℕ) :
    ∑ k : Fin 1024, h k * pick (w k) j = pick (fun n => ∑ k : Fin 1024, h k * w k n) j := by
  unfold pick
  by_cases hj : src j < 7712
  · simp only [dif_pos hj]
  · simp only [dif_neg hj, mul_zero, Finset.sum_const_zero]

end Cert.Proof

end
-- ==== Proof.InOperands.lean ====
/-
  The arrays that the projection call is launched on, read at an index from its arguments.
-/
module

public import proofs.«01_k».proof.Proof.Gen.Kernel3Ideal.Value
public import proofs.«01_k».proof.Proof.Pick
public import Idealize.ShloMosaic.Lib.Pointwise
public import Idealize.ShloMosaic.Lib.Pipeline.Value
public import Idealize.ShloMosaic.Lib.StableHlo.ReadAt

@[expose] public section

set_option maxRecDepth 16384
set_option maxHeartbeats 400000

noncomputable section

namespace Cert.Proof.Inp

open Cert.Kernel3Ideal Cert.Kernel3Ideal.Gen
open Idealize.ShloMosaic Idealize.ShloMosaic.TcCoe

variable (m : (ℓ : Loc nD τ sig) → Buf (Elt Ideal) ℓ) (c : Dev nD)

theorem x_at (r : Fin 16384) (k : Fin 1024) :
    V m c main_v0 (ix2 r k) = m ((c.tc : Thread nD τ).loc main_arg0) (ix3 (⟨r.val / 4096, by omega⟩ : Fin 4) (⟨r.val % 4096, by omega⟩ : Fin 4096) k) := by
  unfold V hostOps0
  after_reads_at

theorem scale_at (b : Fin 4) (k : Fin 1024) :
    V m c main_v1 (ix3 b (0 : Fin 1) k) = m ((c.tc : Thread nD τ).loc main_arg1) (ix2 b k) := by
  unfold V hostOps0
  after_reads_at

theorem shift_at (b : Fin 4) (k : Fin 1024) :
    V m c main_v2 (ix3 b (0 : Fin 1) k) = m ((c.tc : Thread nD τ).loc main_arg2) (ix2 b k) := by
  unfold V hostOps0
  after_reads_at

theorem gain_at (k : Fin 1024) :
    V m c main_v3 (ix2 (0 : Fin 1) k) = m ((c.tc : Thread nD τ).loc main_arg3) (ix1 k) := by
  unfold V hostOps0
  after_reads_at

theorem weights_joined :
    V m c main_v19 = (concatenate S1x8192x1024 1 [⟨S1x2560x1024, (V m c main_v14 : Vec Ideal S1x2560x1024 .bf16)⟩, ⟨S1x1536x1024, (V m c main_v15 : Vec Ideal S1x1536x1024 .bf16)⟩, ⟨S1x3072x1024, (V m c main_v16 : Vec Ideal S1x3072x1024 .bf16)⟩,
      ⟨S1x384x1024, (V m c main_v17 : Vec Ideal S1x384x1024 .bf16)⟩, ⟨S1x64x1024, (V m c main_v11 : Vec Ideal S1x64x1024 .bf16)⟩, ⟨S1x32x1024, (V m c main_v7 : Vec Ideal S1x32x1024 .bf16)⟩, ⟨S1x32x1024, (V m c main_v12 : Vec Ideal S1x32x1024 .bf16)⟩,
      ⟨S1x64x1024, (V m c main_v11 : Vec Ideal S1x64x1024 .bf16)⟩, ⟨S1x32x1024, (V m c main_v10 : Vec Ideal S1x32x1024 .bf16)⟩, ⟨S1x32x1024, (V m c main_v12 : Vec Ideal S1x32x1024 .bf16)⟩, ⟨S1x128x1024, (V m c main_v18 : Vec Ideal S1x128x1024 .bf16)⟩, ⟨S1x256x1024, (V m c main_v13 : Vec Ideal S1x256x1024 .bf16)⟩]
      concatenates_S1x2560x1024_S1x1536x1024_S1x3072x1024_S1x384x1024_S1x64x1024_S1x32x1024_S1x32x1024_S1x64x1024_S1x32x1024_S1x32x1024_S1x128x1024_S1x256x1024_S1x8192x1024_d1 : Vec Ideal S1x8192x1024 .bf16) := by
  unfold V hostOps0
  simp only [StableHlo.after_cons, StableHlo.after_nil]
  rw [StableHlo.nary_result]
  repeat (rw [StableHlo.nary_result_ne]; rotate_left; decide)
  rfl

theorem part0_at (j : Fin 2560) (k : Fin 1024) : V m c main_v14 (ix3 (0 : Fin 1) j k) = m ((c.tc : Thread nD τ).loc main_arg4) (ix2 k (⟨416 + j.val, by omega⟩ : Fin 7712)) := by
  unfold V hostOps0
  after_reads_at

theorem part1_at (j : Fin 1536) (k : Fin 1024) : V m c main_v15 (ix3 (0 : Fin 1) j k) = m ((c.tc : Thread nD τ).loc main_arg4) (ix2 k (⟨3104 + j.val, by omega⟩ : Fin 7712)) := by
  unfold V hostOps0
  after_reads_at

theorem part2_at (j : Fin 3072) (k : Fin 1024) : V m c main_v16 (ix3 (0 : Fin 1) j k) = m ((c.tc : Thread nD τ).loc main_arg4) (ix2 k (⟨4640 + j.val, by omega⟩ : Fin 7712)) := by
  unfold V hostOps0
  after_reads_at

theorem part3_at (j : Fin 384) (k : Fin 1024) : V m c main_v17 (ix3 (0 : Fin 1) j k) = m ((c.tc : Thread nD τ).loc main_arg4) (ix2 k (⟨j.val, by omega⟩ : Fin 7712)) := by
  unfold V hostOps0
  after_reads_at

theorem part4_at (j : Fin 64) (k : Fin 1024) : V m c main_v11 (ix3 (0 : Fin 1) j k) = Ideal.ofBits .bf16 0x0000#16 := by
  unfold V hostOps0
  after_reads_at

theorem part5_at (j : Fin 32) (k : Fin 1024) : V m c main_v7 (ix3 (0 : Fin 1) j k) = m ((c.tc : Thread nD τ).loc main_arg4) (ix2 k (⟨384 + j.val, by omega⟩ : Fin 7712)) := by
  unfold V hostOps0
  after_reads_at

theorem part6_at (j : Fin 32) (k : Fin 1024) : V m c main_v12 (ix3 (0 : Fin 1) j k) = Ideal.ofBits .bf16 0x0000#16 := by
  unfold V hostOps0
  after_reads_at

theorem part8_at (j : Fin 32) (k : Fin 1024) : V m c main_v10 (ix3 (0 : Fin 1) j k) = if h : j.val < 16 then m ((c.tc : Thread nD τ).loc main_arg4) (ix2 k (⟨400 + j.val, by omega⟩ : Fin 7712))
    else m ((c.tc : Thread nD τ).loc main_arg4) (ix2 k (⟨384 + (j.val - 16), by omega⟩ : Fin 7712)) := by
  unfold V hostOps0
  after_reads_at
  by_cases h : j.val < 16
  · refine (dif_pos h).trans (Eq.symm ((dif_pos h).trans ?_))
    exact congrArg (fun n => m ((c.tc : Thread nD τ).loc main_arg4) (ix2 k n)) (Fin.ext (show 400 + j.val = 384 + (16 + j.val) by omega))
  · refine (dif_neg h).trans (Eq.symm ((dif_neg h).trans ?_))
    rfl

theorem part10_at (j : Fin 128) (k : Fin 1024) : V m c main_v18 (ix3 (0 : Fin 1) j k) = m ((c.tc : Thread nD τ).loc main_arg4) (ix2 k (⟨2976 + j.val, by omega⟩ : Fin 7712)) := by
  unfold V hostOps0
  after_reads_at

theorem part11_at (j : Fin 256) (k : Fin 1024) : V m c main_v13 (ix3 (0 : Fin 1) j k) = Ideal.ofBits .bf16 0x0000#16 := by
  unfold V hostOps0
  after_reads_at

set_option maxHeartbeats 4000000 in
theorem joined_at (y0 : Vec Ideal S1x2560x1024 .bf16) (y1 : Vec Ideal S1x1536x1024 .bf16) (y2 : Vec Ideal S1x3072x1024 .bf16) (y3 : Vec Ideal S1x384x1024 .bf16) (y4 : Vec Ideal S1x64x1024 .bf16)
    (y5 y6 y8 : Vec Ideal S1x32x1024 .bf16) (y10 : Vec Ideal S1x128x1024 .bf16) (y11 : Vec Ideal S1x256x1024 .bf16) (k : Fin 1024) (Z : Fin 7712 → EReal)
    (p0 : ∀ (j : Fin 2560) (hj : 416 + j.val < 7712), y0 (ix3 (0 : Fin 1) j k) = Z ⟨416 + j.val, hj⟩)
    (p1 : ∀ (j : Fin 1536) (hj : 3104 + j.val < 7712), y1 (ix3 (0 : Fin 1) j k) = Z ⟨3104 + j.val, hj⟩)
    (p2 : ∀ (j : Fin 3072) (hj : 4640 + j.val < 7712), y2 (ix3 (0 : Fin 1) j k) = Z ⟨4640 + j.val, hj⟩)
    (p3 : ∀ (j : Fin 384) (hj : j.val < 7712), y3 (ix3 (0 : Fin 1) j k) = Z ⟨j.val, hj⟩)
    (p4 : ∀ j : Fin 64, y4 (ix3 (0 : Fin 1) j k) = (0 : EReal))
    (p5 : ∀ (j : Fin 32) (hj : 384 + j.val < 7712), y5 (ix3 (0 : Fin 1) j k) = Z ⟨384 + j.val, hj⟩)
    (p6 : ∀ j : Fin 32, y6 (ix3 (0 : Fin 1) j k) = (0 : EReal))
    (p8 : ∀ (j : Fin 32) (_ : j.val < 16) (hj : 400 + j.val < 7712), y8 (ix3 (0 : Fin 1) j k) = Z ⟨400 + j.val, hj⟩)
    (p8' : ∀ (j : Fin 32) (_ : ¬j.val < 16) (hj : 384 + (j.val - 16) < 7712), y8 (ix3 (0 : Fin 1) j k) = Z ⟨384 + (j.val - 16), hj⟩)
    (p10 : ∀ (j : Fin 128) (hj : 2976 + j.val < 7712), y10 (ix3 (0 : Fin 1) j k) = Z ⟨2976 + j.val, hj⟩)
    (p11 : ∀ j : Fin 256, y11 (ix3 (0 : Fin 1) j k) = (0 : EReal)) (j : Fin 8192) :
    (concatenate S1x8192x1024 1 [⟨S1x2560x1024, y0⟩, ⟨S1x1536x1024, y1⟩, ⟨S1x3072x1024, y2⟩, ⟨S1x384x1024, y3⟩, ⟨S1x64x1024, y4⟩, ⟨S1x32x1024, y5⟩, ⟨S1x32x1024, y6⟩, ⟨S1x64x1024, y4⟩, ⟨S1x32x1024, y8⟩, ⟨S1x32x1024, y6⟩, ⟨S1x128x1024, y10⟩, ⟨S1x256x1024, y11⟩]
      concatenates_S1x2560x1024_S1x1536x1024_S1x3072x1024_S1x384x1024_S1x64x1024_S1x32x1024_S1x32x1024_S1x64x1024_S1x32x1024_S1x32x1024_S1x128x1024_S1x256x1024_S1x8192x1024_d1 : Vec Ideal S1x8192x1024 .bf16) (ix3 (0 : Fin 1) j k) = pick Z j.val := by
  by_cases h0 : j.val < 2560
  · refine (concatenate_apply_piece (t := S1x8192x1024) 1 _ _ (ix3 (0 : Fin 1) j k) 0 (by show 0 < 12; decide) S1x2560x1024 y0 (by rfl) (by rfl) 0 (by rfl) (ix3 (0 : Fin 1) (⟨j.val - 0, by omega⟩ : Fin 2560) k) (fun b hb => ?_) (show 0 + (j.val - 0) = j.val by omega)).trans ?_
    · match b with
      | ⟨0, _⟩ => rfl
      | ⟨1, _⟩ => exact absurd rfl hb
      | ⟨2, _⟩ => rfl
    · exact (p0 (⟨j.val - 0, by omega⟩ : Fin 2560) (by show 416 + (j.val - 0) < 7712; omega)).trans (pick_of _ _ (416 + (j.val - 0)) (by unfold src; split_ifs <;> omega) _).symm
  by_cases h1 : j.val < 4096
  · refine (concatenate_apply_piece (t := S1x8192x1024) 1 _ _ (ix3 (0 : Fin 1) j k) 1 (by show 1 < 12; decide) S1x1536x1024 y1 (by rfl) (by rfl) 2560 (by rfl) (ix3 (0 : Fin 1) (⟨j.val - 2560, by omega⟩ : Fin 1536) k) (fun b hb => ?_) (show 2560 + (j.val - 2560) = j.val by omega)).trans ?_
    · match b with
      | ⟨0, _⟩ => rfl
      | ⟨1, _⟩ => exact absurd rfl hb
      | ⟨2, _⟩ => rfl
    · exact (p1 (⟨j.val - 2560, by omega⟩ : Fin 1536) (by show 3104 + (j.val - 2560) < 7712; omega)).trans (pick_of _ _ (3104 + (j.val - 2560)) (by unfold src; split_ifs <;> omega) _).symm
  by_cases h2 : j.val < 7168
  · refine (concatenate_apply_piece (t := S1x8192x1024) 1 _ _ (ix3 (0 : Fin 1) j k) 2 (by show 2 < 12; decide) S1x3072x1024 y2 (by rfl) (by rfl) 4096 (by rfl) (ix3 (0 : Fin 1) (⟨j.val - 4096, by omega⟩ : Fin 3072) k) (fun b hb => ?_) (show 4096 + (j.val - 4096) = j.val by omega)).trans ?_
    · match b with
      | ⟨0, _⟩ => rfl
      | ⟨1, _⟩ => exact absurd rfl hb
      | ⟨2, _⟩ => rfl
    · exact (p2 (⟨j.val - 4096, by omega⟩ : Fin 3072) (by show 4640 + (j.val - 4096) < 7712; omega)).trans (pick_of _ _ (4640 + (j.val - 4096)) (by unfold src; split_ifs <;> omega) _).symm
  by_cases h3 : j.val < 7552
  · refine (concatenate_apply_piece (t := S1x8192x1024) 1 _ _ (ix3 (0 : Fin 1) j k) 3 (by show 3 < 12; decide) S1x384x1024 y3 (by rfl) (by rfl) 7168 (by rfl) (ix3 (0 : Fin 1) (⟨j.val - 7168, by omega⟩ : Fin 384) k) (fun b hb => ?_) (show 7168 + (j.val - 7168) = j.val by omega)).trans ?_
    · match b with
      | ⟨0, _⟩ => rfl
      | ⟨1, _⟩ => exact absurd rfl hb
      | ⟨2, _⟩ => rfl
    · exact (p3 (⟨j.val - 7168, by omega⟩ : Fin 384) (by show (j.val - 7168) < 7712; omega)).trans (pick_of _ _ ((j.val - 7168)) (by unfold src; split_ifs <;> omega) _).symm
  by_cases h4 : j.val < 7616
  · refine (concatenate_apply_piece (t := S1x8192x1024) 1 _ _ (ix3 (0 : Fin 1) j k) 4 (by show 4 < 12; decide) S1x64x1024 y4 (by rfl) (by rfl) 7552 (by rfl) (ix3 (0 : Fin 1) (⟨j.val - 7552, by omega⟩ : Fin 64) k) (fun b hb => ?_) (show 7552 + (j.val - 7552) = j.val by omega)).trans ?_
    · match b with
      | ⟨0, _⟩ => rfl
      | ⟨1, _⟩ => exact absurd rfl hb
      | ⟨2, _⟩ => rfl
    · exact (p4 _).trans (pick_pad _ _ (by unfold src; split_ifs <;> omega)).symm
  by_cases h5 : j.val < 7648
  · refine (concatenate_apply_piece (t := S1x8192x1024) 1 _ _ (ix3 (0 : Fin 1) j k) 5 (by show 5 < 12; decide) S1x32x1024 y5 (by rfl) (by rfl) 7616 (by rfl) (ix3 (0 : Fin 1) (⟨j.val - 7616, by omega⟩ : Fin 32) k) (fun b hb => ?_) (show 7616 + (j.val - 7616) = j.val by omega)).trans ?_
    · match b with
      | ⟨0, _⟩ => rfl
      | ⟨1, _⟩ => exact absurd rfl hb
      | ⟨2, _⟩ => rfl
    · exact (p5 (⟨j.val - 7616, by omega⟩ : Fin 32) (by show 384 + (j.val - 7616) < 7712; omega)).trans (pick_of _ _ (384 + (j.val - 7616)) (by unfold src; split_ifs <;> omega) _).symm
  by_cases h6 : j.val < 7680
  · refine (concatenate_apply_piece (t := S1x8192x1024) 1 _ _ (ix3 (0 : Fin 1) j k) 6 (by show 6 < 12; decide) S1x32x1024 y6 (by rfl) (by rfl) 7648 (by rfl) (ix3 (0 : Fin 1) (⟨j.val - 7648, by omega⟩ : Fin 32) k) (fun b hb => ?_) (show 7648 + (j.val - 7648) = j.val by omega)).trans ?_
    · match b with
      | ⟨0, _⟩ => rfl
      | ⟨1, _⟩ => exact absurd rfl hb
      | ⟨2, _⟩ => rfl
    · exact (p6 _).trans (pick_pad _ _ (by unfold src; split_ifs <;> omega)).symm
  by_cases h7 : j.val < 7744
  · refine (concatenate_apply_piece (t := S1x8192x1024) 1 _ _ (ix3 (0 : Fin 1) j k) 7 (by show 7 < 12; decide) S1x64x1024 y4 (by rfl) (by rfl) 7680 (by rfl) (ix3 (0 : Fin 1) (⟨j.val - 7680, by omega⟩ : Fin 64) k) (fun b hb => ?_) (show 7680 + (j.val - 7680) = j.val by omega)).trans ?_
    · match b with
      | ⟨0, _⟩ => rfl
      | ⟨1, _⟩ => exact absurd rfl hb
      | ⟨2, _⟩ => rfl
    · exact (p4 _).trans (pick_pad _ _ (by unfold src; split_ifs <;> omega)).symm
  by_cases h8 : j.val < 7776
  · refine (concatenate_apply_piece (t := S1x8192x1024) 1 _ _ (ix3 (0 : Fin 1) j k) 8 (by show 8 < 12; decide) S1x32x1024 y8 (by rfl) (by rfl) 7744 (by rfl) (ix3 (0 : Fin 1) (⟨j.val - 7744, by omega⟩ : Fin 32) k) (fun b hb => ?_) (show 7744 + (j.val - 7744) = j.val by omega)).trans ?_
    · match b with
      | ⟨0, _⟩ => rfl
      | ⟨1, _⟩ => exact absurd rfl hb
      | ⟨2, _⟩ => rfl
    · by_cases h : j.val - 7744 < 16
      · exact (p8 (⟨j.val - 7744, by omega⟩ : Fin 32) h (by show 400 + (j.val - 7744) < 7712; omega)).trans (pick_of _ _ (400 + (j.val - 7744)) (by unfold src; split_ifs <;> omega) _).symm
      · exact (p8' (⟨j.val - 7744, by omega⟩ : Fin 32) h (by show 384 + ((j.val - 7744) - 16) < 7712; omega)).trans (pick_of _ _ (384 + ((j.val - 7744) - 16)) (by unfold src; split_ifs <;> omega) _).symm
  by_cases h9 : j.val < 7808
  · refine (concatenate_apply_piece (t := S1x8192x1024) 1 _ _ (ix3 (0 : Fin 1) j k) 9 (by show 9 < 12; decide) S1x32x1024 y6 (by rfl) (by rfl) 7776 (by rfl) (ix3 (0 : Fin 1) (⟨j.val - 7776, by omega⟩ : Fin 32) k) (fun b hb => ?_) (show 7776 + (j.val - 7776) = j.val by omega)).trans ?_
    · match b with
      | ⟨0, _⟩ => rfl
      | ⟨1, _⟩ => exact absurd rfl hb
      | ⟨2, _⟩ => rfl
    · exact (p6 _).trans (pick_pad _ _ (by unfold src; split_ifs <;> omega)).symm
  by_cases h10 : j.val < 7936
  · refine (concatenate_apply_piece (t := S1x8192x1024) 1 _ _ (ix3 (0 : Fin 1) j k) 10 (by show 10 < 12; decide) S1x128x1024 y10 (by rfl) (by rfl) 7808 (by rfl) (ix3 (0 : Fin 1) (⟨j.val - 7808, by omega⟩ : Fin 128) k) (fun b hb => ?_) (show 7808 + (j.val - 7808) = j.val by omega)).trans ?_
    · match b with
      | ⟨0, _⟩ => rfl
      | ⟨1, _⟩ => exact absurd rfl hb
      | ⟨2, _⟩ => rfl
    · exact (p10 (⟨j.val - 7808, by omega⟩ : Fin 128) (by show 2976 + (j.val - 7808) < 7712; omega)).trans (pick_of _ _ (2976 + (j.val - 7808)) (by unfold src; split_ifs <;> omega) _).symm
  refine (concatenate_apply_piece (t := S1x8192x1024) 1 _ _ (ix3 (0 : Fin 1) j k) 11 (by show 11 < 12; decide) S1x256x1024 y11 (by rfl) (by rfl) 7936 (by rfl) (ix3 (0 : Fin 1) (⟨j.val - 7936, by omega⟩ : Fin 256) k) (fun b hb => ?_) (show 7936 + (j.val - 7936) = j.val by omega)).trans ?_
  · match b with
    | ⟨0, _⟩ => rfl
    | ⟨1, _⟩ => exact absurd rfl hb
    | ⟨2, _⟩ => rfl
  · exact (p11 _).trans (pick_pad _ _ (by unfold src; split_ifs <;> omega)).symm

theorem zero_pad : Ideal.ofBits .bf16 0x0000#16 = 0 := by simp [Ideal.ofBits, Ideal.ieee]

theorem weights_at (j : Fin 8192) (k : Fin 1024) :
    V m c main_v19 (ix3 (0 : Fin 1) j k) = pick (fun n => m ((c.tc : Thread nD τ).loc main_arg4) (ix2 k n)) j.val := by
  rw [weights_joined]
  exact joined_at _ _ _ _ _ _ _ _ _ _ k _ (fun j _ => part0_at m c j k) (fun j _ => part1_at m c j k) (fun j _ => part2_at m c j k) (fun j _ => part3_at m c j k) (fun j => (part4_at m c j k).trans zero_pad)
    (fun j _ => part5_at m c j k) (fun j => (part6_at m c j k).trans zero_pad) (fun j h _ => (part8_at m c j k).trans (dif_pos h)) (fun j h _ => (part8_at m c j k).trans (dif_neg h)) (fun j _ => part10_at m c j k)
    (fun j => (part11_at m c j k).trans zero_pad) j

end Cert.Proof.Inp

end
-- ==== Proof.InRef.lean ====
/-
  The projection's reference over the extended reals, read at an index.
-/
module

public import proofs.«01_k».proof.Proof.Gen.Reference3Ideal
public import proofs.«01_k».proof.Proof.Gen.Reference3Ideal.Run
public import proofs.«01_k».proof.Proof.Gen.Reference3Ideal.Read
public import proofs.«01_k».proof.Proof.Pick
public import Idealize.ShloMosaic.Lib.Pointwise
public import Idealize.ShloMosaic.Lib.Pipeline.Value

@[expose] public section

set_option maxRecDepth 16384
set_option maxHeartbeats 400000

noncomputable section

namespace Cert.Proof.InpRef

open Cert.Reference3Ideal Cert.Reference3Ideal.Gen Cert.Reference3Ideal.Read
open Idealize.ShloMosaic Idealize.ShloMosaic.TcCoe

variable (x0 : (⟨S4x4096x1024, .f32⟩ : BufTy).Contents (Elt Ideal)) (x1 x2 : (⟨S4x1024, .f32⟩ : BufTy).Contents (Elt Ideal)) (x3 : (⟨S1024, .f32⟩ : BufTy).Contents (Elt Ideal)) (x4 : (⟨S1024x7712, .f32⟩ : BufTy).Contents (Elt Ideal))

/-- An entry of the normalised, scaled and shifted layer input. -/
def hid (b : Fin 4) (t : Fin 4096) (k : Fin 1024) : EReal :=
  x0 (ix3 b t k) * Ideal.rsqrt (Ideal.div (∑ l : Fin 1024, x0 (ix3 b t l) * x0 (ix3 b t l)) (Ideal.ofBits .f32 0x44800000#32) + Ideal.ofBits .f32 0x358637BD#32)
    * x3 (ix1 k) * (Ideal.ofBits .f32 0x3F800000#32 + x1 (ix2 b k)) + x2 (ix2 b k)

theorem hid_at (b : Fin 4) (t : Fin 4096) (k : Fin 1024) : val_main_v20 (F := Ideal) x0 x1 x2 x3 (ix3 b t k) = hid x0 x1 x2 x3 b t k := by
  unfold hid
  pointwise [val_main_v20, val_main_v19, val_main_v18, val_main_v17, val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1, val_main_cst_2]

theorem prod_at (r : Fin 16384) (n : Fin 7712) :
    val_main_v22 (F := Ideal) x0 x1 x2 x3 x4 (ix2 r n) = ∑ k : Fin 1024, hid x0 x1 x2 x3 (⟨r.val / 4096, by omega⟩ : Fin 4) (⟨r.val % 4096, by omega⟩ : Fin 4096) k * x4 (ix2 k n) := by
  simp only [← hid_at]
  pointwise [val_main_v22, val_main_v21]

theorem zero_at (r : Fin 16384) (j : Fin 64) : val_main_v23 (F := Ideal) (ix2 r j) = Ideal.ofBits .f32 0x00000000#32 := by
  pointwise [val_main_v23, val_main_cst_3]

set_option maxHeartbeats 4000000 in
theorem joined_at (y0 : Vec Ideal S16384x2560 .f32) (y1 : Vec Ideal S16384x4608 .f32) (y2 : Vec Ideal S16384x384 .f32) (y3 : Vec Ideal S16384x64 .f32) (y4 : Vec Ideal S16384x32 .f32)
    (y5 : Vec Ideal S16384x32 .f32) (y6 y7 : Vec Ideal S16384x16 .f32) (y8 : Vec Ideal S16384x32 .f32) (y9 : Vec Ideal S16384x128 .f32) (r : Fin 16384) (Z : Fin 7712 → EReal)
    (p0 : ∀ (j : Fin 2560) (hj : 416 + j.val < 7712), y0 (ix2 r j) = Z ⟨416 + j.val, hj⟩)
    (p1 : ∀ (j : Fin 4608) (hj : 3104 + j.val < 7712), y1 (ix2 r j) = Z ⟨3104 + j.val, hj⟩)
    (p2 : ∀ (j : Fin 384) (hj : j.val < 7712), y2 (ix2 r j) = Z ⟨j.val, hj⟩)
    (p3 : ∀ j : Fin 64, y3 (ix2 r j) = (0 : EReal))
    (p4 : ∀ (j : Fin 32) (hj : 384 + j.val < 7712), y4 (ix2 r j) = Z ⟨384 + j.val, hj⟩)
    (p5 : ∀ j : Fin 32, y5 (ix2 r j) = (0 : EReal))
    (p6 : ∀ (j : Fin 16) (hj : 400 + j.val < 7712), y6 (ix2 r j) = Z ⟨400 + j.val, hj⟩)
    (p7 : ∀ (j : Fin 16) (hj : 384 + j.val < 7712), y7 (ix2 r j) = Z ⟨384 + j.val, hj⟩)
    (p8 : ∀ j : Fin 32, y8 (ix2 r j) = (0 : EReal))
    (p9 : ∀ (j : Fin 128) (hj : 2976 + j.val < 7712), y9 (ix2 r j) = Z ⟨2976 + j.val, hj⟩) (j : Fin 8192) :
    (concatenate S16384x8192 1 [⟨S16384x2560, y0⟩, ⟨S16384x4608, y1⟩, ⟨S16384x384, y2⟩, ⟨S16384x64, y3⟩, ⟨S16384x32, y4⟩, ⟨S16384x64, y3⟩, ⟨S16384x32, y5⟩, ⟨S16384x16, y6⟩, ⟨S16384x16, y7⟩, ⟨S16384x32, y8⟩, ⟨S16384x128, y9⟩, ⟨S16384x64, y3⟩, ⟨S16384x64, y3⟩, ⟨S16384x64, y3⟩, ⟨S16384x64, y3⟩]
      concatenates_S16384x2560_S16384x4608_S16384x384_S16384x64_S16384x32_S16384x64_S16384x32_S16384x16_S16384x16_S16384x32_S16384x128_S16384x64_S16384x64_S16384x64_S16384x64_S16384x8192_d1 : Vec Ideal S16384x8192 .f32) (ix2 r j) = pick Z j.val := by
  by_cases h0 : j.val < 2560
  · refine (concatenate_apply_piece (t := S16384x8192) 1 _ _ (ix2 r j) 0 (by show 0 < 15; decide) S16384x2560 y0 (by rfl) (by rfl) 0 (by rfl) (ix2 r (⟨j.val - 0, by omega⟩ : Fin 2560)) (fun b hb => ?_) (show 0 + (j.val - 0) = j.val by omega)).trans ?_
    · match b with
      | ⟨0, _⟩ => rfl
      | ⟨1, _⟩ => exact absurd rfl hb
    · exact (p0 (⟨j.val - 0, by omega⟩ : Fin 2560) (by show 416 + (j.val - 0) < 7712; omega)).trans (pick_of _ _ (416 + (j.val - 0)) (by unfold src; split_ifs <;> omega) _).symm
  by_cases h1 : j.val < 7168
  · refine (concatenate_apply_piece (t := S16384x8192) 1 _ _ (ix2 r j) 1 (by show 1 < 15; decide) S16384x4608 y1 (by rfl) (by rfl) 2560 (by rfl) (ix2 r (⟨j.val - 2560, by omega⟩ : Fin 4608)) (fun b hb => ?_) (show 2560 + (j.val - 2560) = j.val by omega)).trans ?_
    · match b with
      | ⟨0, _⟩ => rfl
      | ⟨1, _⟩ => exact absurd rfl hb
    · exact (p1 (⟨j.val - 2560, by omega⟩ : Fin 4608) (by show 3104 + (j.val - 2560) < 7712; omega)).trans (pick_of _ _ (3104 + (j.val - 2560)) (by unfold src; split_ifs <;> omega) _).symm
  by_cases h2 : j.val < 7552
  · refine (concatenate_apply_piece (t := S16384x8192) 1 _ _ (ix2 r j) 2 (by show 2 < 15; decide) S16384x384 y2 (by rfl) (by rfl) 7168 (by rfl) (ix2 r (⟨j.val - 7168, by omega⟩ : Fin 384)) (fun b hb => ?_) (show 7168 + (j.val - 7168) = j.val by omega)).trans ?_
    · match b with
      | ⟨0, _⟩ => rfl
      | ⟨1, _⟩ => exact absurd rfl hb
    · exact (p2 (⟨j.val - 7168, by omega⟩ : Fin 384) (by show (j.val - 7168) < 7712; omega)).trans (pick_of _ _ ((j.val - 7168)) (by unfold src; split_ifs <;> omega) _).symm
  by_cases h3 : j.val < 7616
  · refine (concatenate_apply_piece (t := S16384x8192) 1 _ _ (ix2 r j) 3 (by show 3 < 15; decide) S16384x64 y3 (by rfl) (by rfl) 7552 (by rfl) (ix2 r (⟨j.val - 7552, by omega⟩ : Fin 64)) (fun b hb => ?_) (show 7552 + (j.val - 7552) = j.val by omega)).trans ?_
    · match b with
      | ⟨0, _⟩ => rfl
      | ⟨1, _⟩ => exact absurd rfl hb
    · exact (p3 _).trans (pick_pad _ _ (by unfold src; split_ifs <;> omega)).symm
  by_cases h4 : j.val < 7648
  · refine (concatenate_apply_piece (t := S16384x8192) 1 _ _ (ix2 r j) 4 (by show 4 < 15; decide) S16384x32 y4 (by rfl) (by rfl) 7616 (by rfl) (ix2 r (⟨j.val - 7616, by omega⟩ : Fin 32)) (fun b hb => ?_) (show 7616 + (j.val - 7616) = j.val by omega)).trans ?_
    · match b with
      | ⟨0, _⟩ => rfl
      | ⟨1, _⟩ => exact absurd rfl hb
    · exact (p4 (⟨j.val - 7616, by omega⟩ : Fin 32) (by show 384 + (j.val - 7616) < 7712; omega)).trans (pick_of _ _ (384 + (j.val - 7616)) (by unfold src; split_ifs <;> omega) _).symm
  by_cases h5 : j.val < 7712
  · refine (concatenate_apply_piece (t := S16384x8192) 1 _ _ (ix2 r j) 5 (by show 5 < 15; decide) S16384x64 y3 (by rfl) (by rfl) 7648 (by rfl) (ix2 r (⟨j.val - 7648, by omega⟩ : Fin 64)) (fun b hb => ?_) (show 7648 + (j.val - 7648) = j.val by omega)).trans ?_
    · match b with
      | ⟨0, _⟩ => rfl
      | ⟨1, _⟩ => exact absurd rfl hb
    · exact (p3 _).trans (pick_pad _ _ (by unfold src; split_ifs <;> omega)).symm
  by_cases h6 : j.val < 7744
  · refine (concatenate_apply_piece (t := S16384x8192) 1 _ _ (ix2 r j) 6 (by show 6 < 15; decide) S16384x32 y5 (by rfl) (by rfl) 7712 (by rfl) (ix2 r (⟨j.val - 7712, by omega⟩ : Fin 32)) (fun b hb => ?_) (show 7712 + (j.val - 7712) = j.val by omega)).trans ?_
    · match b with
      | ⟨0, _⟩ => rfl
      | ⟨1, _⟩ => exact absurd rfl hb
    · exact (p5 _).trans (pick_pad _ _ (by unfold src; split_ifs <;> omega)).symm
  by_cases h7 : j.val < 7760
  · refine (concatenate_apply_piece (t := S16384x8192) 1 _ _ (ix2 r j) 7 (by show 7 < 15; decide) S16384x16 y6 (by rfl) (by rfl) 7744 (by rfl) (ix2 r (⟨j.val - 7744, by omega⟩ : Fin 16)) (fun b hb => ?_) (show 7744 + (j.val - 7744) = j.val by omega)).trans ?_
    · match b with
      | ⟨0, _⟩ => rfl
      | ⟨1, _⟩ => exact absurd rfl hb
    · exact (p6 (⟨j.val - 7744, by omega⟩ : Fin 16) (by show 400 + (j.val - 7744) < 7712; omega)).trans (pick_of _ _ (400 + (j.val - 7744)) (by unfold src; split_ifs <;> omega) _).symm
  by_cases h8 : j.val < 7776
  · refine (concatenate_apply_piece (t := S16384x8192) 1 _ _ (ix2 r j) 8 (by show 8 < 15; decide) S16384x16 y7 (by rfl) (by rfl) 7760 (by rfl) (ix2 r (⟨j.val - 7760, by omega⟩ : Fin 16)) (fun b hb => ?_) (show 7760 + (j.val - 7760) = j.val by omega)).trans ?_
    · match b with
      | ⟨0, _⟩ => rfl
      | ⟨1, _⟩ => exact absurd rfl hb
    · exact (p7 (⟨j.val - 7760, by omega⟩ : Fin 16) (by show 384 + (j.val - 7760) < 7712; omega)).trans (pick_of _ _ (384 + (j.val - 7760)) (by unfold src; split_ifs <;> omega) _).symm
  by_cases h9 : j.val < 7808
  · refine (concatenate_apply_piece (t := S16384x8192) 1 _ _ (ix2 r j) 9 (by show 9 < 15; decide) S16384x32 y8 (by rfl) (by rfl) 7776 (by rfl) (ix2 r (⟨j.val - 7776, by omega⟩ : Fin 32)) (fun b hb => ?_) (show 7776 + (j.val - 7776) = j.val by omega)).trans ?_
    · match b with
      | ⟨0, _⟩ => rfl
      | ⟨1, _⟩ => exact absurd rfl hb
    · exact (p8 _).trans (pick_pad _ _ (by unfold src; split_ifs <;> omega)).symm
  by_cases h10 : j.val < 7936
  · refine (concatenate_apply_piece (t := S16384x8192) 1 _ _ (ix2 r j) 10 (by show 10 < 15; decide) S16384x128 y9 (by rfl) (by rfl) 7808 (by rfl) (ix2 r (⟨j.val - 7808, by omega⟩ : Fin 128)) (fun b hb => ?_) (show 7808 + (j.val - 7808) = j.val by omega)).trans ?_
    · match b with
      | ⟨0, _⟩ => rfl
      | ⟨1, _⟩ => exact absurd rfl hb
    · exact (p9 (⟨j.val - 7808, by omega⟩ : Fin 128) (by show 2976 + (j.val - 7808) < 7712; omega)).trans (pick_of _ _ (2976 + (j.val - 7808)) (by unfold src; split_ifs <;> omega) _).symm
  by_cases h11 : j.val < 8000
  · refine (concatenate_apply_piece (t := S16384x8192) 1 _ _ (ix2 r j) 11 (by show 11 < 15; decide) S16384x64 y3 (by rfl) (by rfl) 7936 (by rfl) (ix2 r (⟨j.val - 7936, by omega⟩ : Fin 64)) (fun b hb => ?_) (show 7936 + (j.val - 7936) = j.val by omega)).trans ?_
    · match b with
      | ⟨0, _⟩ => rfl
      | ⟨1, _⟩ => exact absurd rfl hb
    · exact (p3 _).trans (pick_pad _ _ (by unfold src; split_ifs <;> omega)).symm
  by_cases h12 : j.val < 8064
  · refine (concatenate_apply_piece (t := S16384x8192) 1 _ _ (ix2 r j) 12 (by show 12 < 15; decide) S16384x64 y3 (by rfl) (by rfl) 8000 (by rfl) (ix2 r (⟨j.val - 8000, by omega⟩ : Fin 64)) (fun b hb => ?_) (show 8000 + (j.val - 8000) = j.val by omega)).trans ?_
    · match b with
      | ⟨0, _⟩ => rfl
      | ⟨1, _⟩ => exact absurd rfl hb
    · exact (p3 _).trans (pick_pad _ _ (by unfold src; split_ifs <;> omega)).symm
  by_cases h13 : j.val < 8128
  · refine (concatenate_apply_piece (t := S16384x8192) 1 _ _ (ix2 r j) 13 (by show 13 < 15; decide) S16384x64 y3 (by rfl) (by rfl) 8064 (by rfl) (ix2 r (⟨j.val - 8064, by omega⟩ : Fin 64)) (fun b hb => ?_) (show 8064 + (j.val - 8064) = j.val by omega)).trans ?_
    · match b with
      | ⟨0, _⟩ => rfl
      | ⟨1, _⟩ => exact absurd rfl hb
    · exact (p3 _).trans (pick_pad _ _ (by unfold src; split_ifs <;> omega)).symm
  refine (concatenate_apply_piece (t := S16384x8192) 1 _ _ (ix2 r j) 14 (by show 14 < 15; decide) S16384x64 y3 (by rfl) (by rfl) 8128 (by rfl) (ix2 r (⟨j.val - 8128, by omega⟩ : Fin 64)) (fun b hb => ?_) (show 8128 + (j.val - 8128) = j.val by omega)).trans ?_
  · match b with
    | ⟨0, _⟩ => rfl
    | ⟨1, _⟩ => exact absurd rfl hb
  · exact (p3 _).trans (pick_pad _ _ (by unfold src; split_ifs <;> omega)).symm

theorem zero_word : Ideal.ofBits .f32 0x00000000#32 = 0 := by simp [Ideal.ofBits, Ideal.ieee]

theorem out_at (r : Fin 16384) (j : Fin 8192) :
    val_main_v34 (F := Ideal) x0 x1 x2 x3 x4 (ix2 r j)
      = pick (fun n => ∑ k : Fin 1024, hid x0 x1 x2 x3 (⟨r.val / 4096, by omega⟩ : Fin 4) (⟨r.val % 4096, by omega⟩ : Fin 4096) k * x4 (ix2 k n)) j.val := by
  have e : (fun n => ∑ k : Fin 1024, hid x0 x1 x2 x3 (⟨r.val / 4096, by omega⟩ : Fin 4) (⟨r.val % 4096, by omega⟩ : Fin 4096) k * x4 (ix2 k n)) = fun n => val_main_v22 (F := Ideal) x0 x1 x2 x3 x4 (ix2 r n) :=
    funext fun n => (prod_at x0 x1 x2 x3 x4 r n).symm
  have hz : ∀ j, val_main_v23 (F := Ideal) (ix2 r j) = (0 : EReal) := fun j => (zero_at r j).trans zero_word
  rw [e]
  unfold val_main_v34 val_main_v33 val_main_v24 val_main_v25 val_main_v26 val_main_v27 val_main_v28 val_main_v29 val_main_v30 val_main_v31 val_main_v32
  generalize val_main_v22 (F := Ideal) x0 x1 x2 x3 x4 = y
  generalize val_main_v23 (F := Ideal) = z at hz ⊢
  refine (joined_at _ _ _ _ _ _ _ _ _ _ r _ (fun j hj => ?_) (fun j hj => ?_) (fun j hj => ?_) hz (fun j hj => ?_) (fun j => ?_) (fun j hj => ?_) (fun j hj => ?_) (fun j => ?_) (fun j hj => ?_) j)
  · pointwise
  · pointwise
  · pointwise
  · pointwise
  · refine Eq.trans ?_ (hz (⟨j.val, by omega⟩ : Fin 64))
    pointwise
  · pointwise
  · pointwise
  · refine Eq.trans ?_ (hz (⟨j.val, by omega⟩ : Fin 64))
    pointwise
  · pointwise

end Cert.Proof.InpRef

end
-- ==== Proof.InGoal.lean ====
/-
  The projection call computes the reference's projection over the extended reals.
-/
module

public import proofs.«01_k».proof.Defs
public import proofs.«01_k».proof.Proof.InBody
public import proofs.«01_k».proof.Proof.InOperands
public import proofs.«01_k».proof.Proof.InRef

@[expose] public section

set_option maxRecDepth 16384
set_option maxHeartbeats 400000

noncomputable section

namespace Cert.Proof.Inp

open Cert.Kernel3Ideal Cert.Kernel3Ideal.Gen
open Idealize.ShloMosaic Idealize.ShloMosaic.TcCoe Idealize.ShloMosaic.Tactic Idealize.SL.Sem

variable (m : (ℓ : Loc nD τ sig) → Buf (Elt Ideal) ℓ) (c : Dev nD)

/-- Row `R` of the normalised, scaled and shifted layer input. -/
def hrow (R : ℕ) (k : Fin 1024) : EReal :=
  InpRef.hid (m ((c.tc : Thread nD τ).loc main_arg0)) (m ((c.tc : Thread nD τ).loc main_arg1)) (m ((c.tc : Thread nD τ).loc main_arg2)) (m ((c.tc : Thread nD τ).loc main_arg3))
    ⟨R / 4096 % 4, Nat.mod_lt _ (by decide)⟩ ⟨R % 4096, Nat.mod_lt _ (by decide)⟩ k

/-- Row `R` of the projection, its columns in their own order. -/
def prow (R : ℕ) (n : Fin 7712) : EReal := ∑ k : Fin 1024, hrow m c R k * m ((c.tc : Thread nD τ).loc main_arg4) (ix2 k n)

/-- The whole result array. -/
def outArr : Vec Ideal S16384x8192 .bf16 := fun j => pick (prow m c (j 0).val) (j 1).val

theorem idx0 : ∀ t : Fin cfg0.N, win0_0.index t = ![t.val / 2, 0] := by decide +kernel
theorem idx1 : ∀ t : Fin cfg0.N, win0_1.index t = ![t.val / 8, 0, 0] := by decide +kernel
theorem idx2 : ∀ t : Fin cfg0.N, win0_2.index t = ![t.val / 8, 0, 0] := by decide +kernel
theorem idx3 : ∀ t : Fin cfg0.N, win0_3.index t = ![0, 0] := by decide +kernel
theorem idx4 : ∀ t : Fin cfg0.N, win0_4.index t = ![0, t.val % 2, 0] := by decide +kernel
theorem idx5 : ∀ t : Fin cfg0.N, win0_5.index t = ![t.val / 2, t.val % 2] := by decide +kernel

section Blocks
variable (t : Fin cfg0.N) (ht : t.val < 32)

theorem blk0 (r k : Fin 1024) : iblk m c 0 t (ix2 r k) = V m c main_v0 (ix2 (⟨1024 * (t.val / 2) + r.val, by omega⟩ : Fin 16384) k) := by
  unfold iblk
  rw [View.read_apply]
  refine congrArg (V m c main_v0) (funext fun a => Fin.ext ?_)
  blk_simp [idx0]
  match a with
  | ⟨0, _⟩ => show t.val / 2 * 1024 + r.val = 1024 * (t.val / 2) + r.val; omega
  | ⟨1, _⟩ => show 0 * 1024 + k.val = k.val; omega

theorem blk1 (k : Fin 1024) : iblk m c 1 t (ix3 (0 : Fin 1) (0 : Fin 1) k) = V m c main_v1 (ix3 (⟨t.val / 8, by omega⟩ : Fin 4) (0 : Fin 1) k) := by
  unfold iblk
  rw [View.read_apply]
  refine congrArg (V m c main_v1) (funext fun a => Fin.ext ?_)
  blk_simp [idx1]
  match a with
  | ⟨0, _⟩ => show t.val / 8 * 1 + 0 = t.val / 8; omega
  | ⟨1, _⟩ => rfl
  | ⟨2, _⟩ => show 0 * 1024 + k.val = k.val; omega

theorem blk2 (k : Fin 1024) : iblk m c 2 t (ix3 (0 : Fin 1) (0 : Fin 1) k) = V m c main_v2 (ix3 (⟨t.val / 8, by omega⟩ : Fin 4) (0 : Fin 1) k) := by
  unfold iblk
  rw [View.read_apply]
  refine congrArg (V m c main_v2) (funext fun a => Fin.ext ?_)
  blk_simp [idx2]
  match a with
  | ⟨0, _⟩ => show t.val / 8 * 1 + 0 = t.val / 8; omega
  | ⟨1, _⟩ => rfl
  | ⟨2, _⟩ => show 0 * 1024 + k.val = k.val; omega

theorem blk3 (k : Fin 1024) : iblk m c 3 t (ix2 (0 : Fin 1) k) = V m c main_v3 (ix2 (0 : Fin 1) k) := by
  unfold iblk
  rw [View.read_apply]
  refine congrArg (V m c main_v3) (funext fun a => Fin.ext ?_)
  blk_simp [idx3]
  match a with
  | ⟨0, _⟩ => rfl
  | ⟨1, _⟩ => show 0 * 1024 + k.val = k.val; omega

theorem blk4 (j : Fin 4096) (k : Fin 1024) : iblk m c 4 t (ix3 (0 : Fin 1) j k) = V m c main_v19 (ix3 (0 : Fin 1) (⟨4096 * (t.val % 2) + j.val, by omega⟩ : Fin 8192) k) := by
  unfold iblk
  rw [View.read_apply]
  refine congrArg (V m c main_v19) (funext fun a => Fin.ext ?_)
  blk_simp [idx4]
  match a with
  | ⟨0, _⟩ => rfl
  | ⟨1, _⟩ => show t.val % 2 * 4096 + j.val = 4096 * (t.val % 2) + j.val; omega
  | ⟨2, _⟩ => show 0 * 1024 + k.val = k.val; omega

include ht in
theorem rows_blk (r k : Fin 1024) :
    k0_pay1 (F := Ideal) (iblk m c 0 t) (iblk m c 3 t) (iblk m c 1 t) (iblk m c 2 t) (ix2 r k) = hrow m c (1024 * (t.val / 2) + r.val) k := by
  have eb : (⟨(1024 * (t.val / 2) + r.val) / 4096 % 4, Nat.mod_lt _ (by decide)⟩ : Fin 4) = ⟨t.val / 8, by omega⟩ := Fin.ext (by show (1024 * (t.val / 2) + r.val) / 4096 % 4 = t.val / 8; omega)
  have ex : ∀ k : Fin 1024, iblk m c 0 t (ix2 r k) = m ((c.tc : Thread nD τ).loc main_arg0) (ix3 (⟨t.val / 8, by omega⟩ : Fin 4) (⟨(1024 * (t.val / 2) + r.val) % 4096, Nat.mod_lt _ (by decide)⟩ : Fin 4096) k) := by
    intro k
    rw [blk0 m c t ht, x_at]
    refine congrArg (fun b => m ((c.tc : Thread nD τ).loc main_arg0) (ix3 b _ k)) (Fin.ext ?_)
    show (1024 * (t.val / 2) + r.val) / 4096 = t.val / 8
    omega
  refine (rows_at _ _ _ _ r k).trans ?_
  unfold hrow InpRef.hid
  rw [eb]
  simp only [ex]
  rw [blk1 m c t ht, blk2 m c t ht, blk3, scale_at, shift_at, gain_at]

include ht in
theorem out_blk (xs : Vec Ideal S1024x1024 .bf16) (r : Fin 1024) (j : Fin 4096) (hx : ∀ k : Fin 1024, xs (ix2 r k) = hrow m c (1024 * (t.val / 2) + r.val) k) :
    k0_pay2 (F := Ideal) xs (iblk m c 4 t) (ix2 r j) = pick (prow m c (1024 * (t.val / 2) + r.val)) (4096 * (t.val % 2) + j.val) := by
  refine (prod_at _ _ r j).trans (Eq.trans ?_ (pick_sum (hrow m c (1024 * (t.val / 2) + r.val)) (fun k n => m ((c.tc : Thread nD τ).loc main_arg4) (ix2 k n)) _))
  refine Finset.sum_congr rfl fun k _ => ?_
  rw [hx k, blk4 m c t, weights_at]

include ht in
theorem point (r : Fin 1024) (j : Fin 4096) :
    (outsAt0 m c t.val t.isLt).1 (ix2 r j) = pick (prow m c (1024 * (t.val / 2) + r.val)) (4096 * (t.val % 2) + j.val) := by
  by_cases h0 : t.val % 2 = 0
  · rw [outsAt0_A m c t h0]
    dsimp only
    rw [out_first]
    exact out_blk m c t ht _ r j fun k => rows_blk m c t ht r k
  · rw [outsAt0_B m c t h0]
    dsimp only
    rw [out_second]
    have hl : t.val - 1 < cfg0.N := Nat.lt_of_le_of_lt (Nat.sub_le _ _) t.isLt
    have h1 := outsAt0_A m c ⟨t.val - 1, hl⟩ (by show (t.val - 1) % 2 = 0; omega)
    refine out_blk m c t ht _ r j fun k => ?_
    refine (congrFun (congrArg Prod.snd h1) (ix2 r k)).trans ?_
    dsimp only
    rw [kept_first]
    refine (rows_blk m c ⟨t.val - 1, hl⟩ (by show t.val - 1 < 32; omega) r k).trans ?_
    refine congrArg (fun R => hrow m c R k) ?_
    show 1024 * ((t.val - 1) / 2) + r.val = 1024 * (t.val / 2) + r.val
    omega

end Blocks

/-- The result array after the run. -/
theorem array : (dats m 0 c).arrAt 5 cfg0.N = outArr m c := by
  refine (dats m 0 c).arrAt_eq_of_covers 5 _ (by decide +kernel) fun t hf y => ?_
  rw [after0_5]
  have ht : t.val < 32 := t.isLt
  have e0 : (((cfg0.win 5).blk t).view.emb y 0).val = 1024 * (t.val / 2) + (y 0).val := by
    blk_simp [idx5]
    show t.val / 2 * 1024 + (y 0).val = _
    omega
  have e1 : (((cfg0.win 5).blk t).view.emb y 1).val = 4096 * (t.val % 2) + (y 1).val := by
    blk_simp [idx5]
    show t.val % 2 * 4096 + (y 1).val = _
    omega
  have ey : y = ix2 (n0 := 1024) (n1 := 4096) (y 0) (y 1) := funext fun a => match a with
    | ⟨0, _⟩ => rfl
    | ⟨1, _⟩ => rfl
  blk_simp
  unfold outArr
  rw [e0, e1]
  exact (congrArg _ ey).trans (point m c t ht (y 0) (y 1))

theorem algebraic : Cert.algebraic_Kernel3Ideal_Reference3Ideal (hKernel3Ideal := Cert.Kernel3Ideal.Gen.facts) (hReference3Ideal := Cert.Reference3Ideal.Gen.facts) := by
  intro m g m' g' _ hargs
  have key : ∀ c : Dev nD, outArr m c = Cert.Reference3Ideal.Value.res_main_v34 m' c := by
    intro c
    refine Eq.symm ((Cert.Reference3Ideal.Read.val_main_v34_eq m' c).trans ?_)
    rw [(hargs c).1, (hargs c).2.1, (hargs c).2.2.1, (hargs c).2.2.2.1, (hargs c).2.2.2.2]
    funext j
    have ej : j = ix2 (n0 := 16384) (n1 := 8192) (j 0) (j 1) := funext fun a => match a with
      | ⟨0, _⟩ => rfl
      | ⟨1, _⟩ => rfl
    refine (congrArg _ ej).trans ((InpRef.out_at _ _ _ _ _ (j 0) (j 1)).trans ?_)
    unfold outArr
    refine congrArg (fun Z => pick Z (j 1).val) (funext fun n => ?_)
    unfold prow hrow
    refine Finset.sum_congr rfl fun k _ => ?_
    refine congrArg (fun b => InpRef.hid _ _ _ _ b _ k * _) (Fin.ext ?_)
    have hj : (j 0).val < 16384 := (j 0).isLt
    show (j 0).val / 4096 = (j 0).val / 4096 % 4
    omega
  refine ⟨fun c => outArr m c, ?_, ?_⟩
  · exact (θ_run defs _ _).mono (fun r h c => ⟨(h c).1.trans (array m c), (h c).2⟩) (Cert.Kernel3Ideal.Value.run_blocks m g)
  · exact (θ_run Cert.Reference3Ideal.defs _ _).mono (fun r h c => ⟨(h c).1.trans (key c).symm, (h c).2⟩) (Cert.Reference3Ideal.Value.run m' g')

end Cert.Proof.Inp

end
-- ==== Proof.MergeMath.lean ====
/-
  The merge over the extended reals: the sigmoid, the three branches' sum and the normalised result.
-/
module

public import proofs.«01_k».proof.Proof.Soft

@[expose] public section

set_option maxHeartbeats 400000

noncomputable section

namespace Cert.Proof.Mrg

open Idealize.ShloMosaic

/-- The sigmoid. -/
def sg (x : EReal) : EReal := Ideal.div (Ideal.ofBits .f32 0x3F800000#32) (Ideal.ofBits .f32 0x3F800000#32 + Ideal.exp (-x))

/-- An exponential in base two of the argument times -1/log 2. -/
theorem exp2_neg (x : EReal) : Ideal.exp2 (x * ((-((Real.log 2)⁻¹) : ℝ) : EReal)) = Ideal.exp (-x) := by
  have hl : (0 : ℝ) < Real.log 2 := Real.log_pos (by norm_num)
  have hn : -((Real.log 2)⁻¹) < 0 := neg_neg_of_pos (inv_pos.2 hl)
  induction x with
  | bot => rw [EReal.bot_mul_coe_of_neg hn, EReal.neg_bot]; rfl
  | top => rw [EReal.top_mul_coe_of_neg hn, EReal.neg_top]; rfl
  | coe r =>
    rw [← EReal.coe_mul, Soft.exp2_real, ← EReal.coe_neg, Ideal.exp_coe]
    congr 2
    field_simp

/-- One branch: the gated outputs times the branch's weights, times the second gate. -/
def branch (y z : Fin 512 → EReal) (w : Fin 512 → EReal) (g : EReal) : EReal := (∑ l : Fin 512, y l * (z l * sg (z l)) * w l) * sg g

/-- The output projection of the summed branches. -/
def projected (s : Fin 1024 → EReal) (wo : Fin 1024 → Fin 1024 → EReal) (d : Fin 1024) : EReal := ∑ k : Fin 1024, s k * wo k d

/-- The residual plus the gated and normalised projection. -/
def result (Y x gate pg : Fin 1024 → EReal) (d : Fin 1024) : EReal :=
  x d + gate d * (Y d * Ideal.rsqrt (Ideal.div (∑ l : Fin 1024, Y l * Y l) (Ideal.ofBits .f32 0x44800000#32) + Ideal.ofBits .f32 0x358637BD#32) * pg d)

end Cert.Proof.Mrg

end
-- ==== Proof.MergeBody.lean ====
/-
  The merge call's body: what a point leaves in the result's block.
-/
module

public import proofs.«01_k».proof.Proof.Gen.Kernel2Ideal.Value
public import proofs.«01_k».proof.Proof.MergeMath
public import Idealize.ShloMosaic.Lib.Pipeline.ValueKit
public import Idealize.ShloMosaic.Lib.Pointwise

@[expose] public section

set_option maxRecDepth 16384
set_option maxHeartbeats 400000

noncomputable section

namespace Cert.Proof.Mrg

open Cert.Kernel2Ideal Cert.Kernel2Ideal.Gen
open Idealize.ShloMosaic Idealize.ShloMosaic.TcCoe Idealize.ShloMosaic.Tactic

/-- The named constant of the sigmoids. -/
theorem nlog2e_eq : Named.named (F := Ideal) κ "nlog2e" (φ := .f32) 0xBFB8AA3B#32 = ((-((Real.log 2)⁻¹) : ℝ) : EReal) :=
  IdealRules.named_const.ideal_named_scalar _ _ _ _ rfl

theorem one_eq : Ideal.ofBits .f32 0x3F800000#32 = (1 : EReal) := by
  simp [Ideal.ofBits, Ideal.ieee, -EReal.coe_mul]
  norm_num

/-- The kernel's sigmoid. -/
theorem sg_eq (x : EReal) :
    Ideal.div (1 : EReal) ((1 : EReal) + FloatOps.exp2 (F := Ideal) (φ := .f32) (x * Named.named (F := Ideal) κ "nlog2e" (φ := .f32) 0xBFB8AA3B#32)) = sg x := by
  unfold sg
  rw [one_eq, nlog2e_eq, ← exp2_neg]
  rfl

theorem first_at (v0 : Vec Ideal S512x512 .bf16) (v3 : Vec Ideal S512x512 .f32) (v15 : Vec Ideal S1x1x512x1024 .bf16) (v18 : Vec Ideal S512x1024 .bf16) (r : Fin 512) (k : Fin 1024) :
    k0_pay1 (F := Ideal) v0 v3 v15 v18 (ix2 r k)
      = branch (fun l => v3 (ix2 r l)) (fun l => v0 (ix2 r l)) (fun l => v15 (ix4 (0 : Fin 1) (0 : Fin 1) l k)) (v18 (ix2 r k)) := by
  unfold branch
  pointwise [k0_pay1, sg_eq]

theorem second_at (v28 : FVec Ideal S512x1024 .f32) (v29 : Vec Ideal S512x512 .bf16) (v32 : Vec Ideal S512x512 .f32) (v44 : Vec Ideal S1x1x512x1024 .bf16) (v47 : Vec Ideal S512x1024 .bf16) (r : Fin 512) (k : Fin 1024) :
    k0_pay5 (F := Ideal) v28 (k0_pay2 v29) (k0_pay3 v32) (k0_pay4 v29) v44 v47 (ix2 r k)
      = v28 (ix2 r k) + branch (fun l => v32 (ix2 r l)) (fun l => v29 (ix2 r l)) (fun l => v44 (ix4 (0 : Fin 1) (0 : Fin 1) l k)) (v47 (ix2 r k)) := by
  unfold branch
  pointwise [k0_pay5, k0_pay4, k0_pay3, k0_pay2, sg_eq]

/-- The sum of the three branches, as the last stretch of the body writes it. -/
def third (v58 : FVec Ideal S512x1024 .f32) (v59 : Vec Ideal S512x512 .bf16) (v62 : Vec Ideal S512x512 .f32) (v74 : Vec Ideal S1x1x512x1024 .bf16) (v77 : Vec Ideal S512x1024 .bf16) (r : Fin 512) (k : Fin 1024) : EReal :=
  v58 (ix2 r k) + branch (fun l => v62 (ix2 r l)) (fun l => v59 (ix2 r l)) (fun l => v74 (ix4 (0 : Fin 1) (0 : Fin 1) l k)) (v77 (ix2 r k))

theorem last_at (v58 : FVec Ideal S512x1024 .f32) (v59 : Vec Ideal S512x512 .bf16) (v62 : Vec Ideal S512x512 .f32) (v74 : Vec Ideal S1x1x512x1024 .bf16) (v77 : Vec Ideal S512x1024 .bf16)
    (v89 : Vec Ideal S1x1024x1024 .bf16) (v103 : Vec Ideal S1x1024 .f32) (v107 : Vec Ideal S512x1024 .f32) (v109 : Vec Ideal S1x1x1024 .f32) (r : Fin 512) (d : Fin 1024) :
    k0_pay7 (F := Ideal) v58 (k0_pay6 v59 v62) v74 v77 v89 v103 v107 v109 (ix2 r d)
      = result (projected (third v58 v59 v62 v74 v77 r) (fun k e => v89 (ix3 (0 : Fin 1) k e))) (fun e => v107 (ix2 r e)) (fun e => v109 (ix3 (0 : Fin 1) (0 : Fin 1) e)) (fun e => v103 (ix2 (0 : Fin 1) e)) d := by
  unfold result projected third branch
  pointwise [k0_pay7, k0_pay6, sg_eq]

section Pieces
variable (x0 x1 x2 : Vec Ideal S512x512 .f32) (x3 x4 x5 : Vec Ideal S512x512 .bf16) (x6 x7 x8 : Vec Ideal S512x1024 .bf16) (x9 : Vec Ideal S512x1024 .f32) (x10 : Vec Ideal S1x1x1024 .f32) (x11 : Vec Ideal S1x1024 .f32) (x12 : Vec Ideal S1x3x512x1024 .bf16) (x13 : Vec Ideal S1x1024x1024 .bf16)

theorem out_eq : out0_14 x0 x1 x2 x3 x4 x5 x6 x7 x8 x9 x10 x11 x12 x13
    = k0_pay7 (k0_pay5 (k0_pay1 x3 x0 (View.ld x12 r0_1) x6) (k0_pay2 x4) (k0_pay3 x1) (k0_pay4 x4) (View.ld x12 r0_3) x7) (k0_pay6 x5 x2) (View.ld x12 r0_4) x8 x13 x11 x9 x10 := by
  frame_out

theorem ld_first (l : Fin 512) (k : Fin 1024) : View.ld x12 r0_1 (ix4 (0 : Fin 1) (0 : Fin 1) l k) = x12 (ix4 (0 : Fin 1) (0 : Fin 3) l k) := by
  refine congrArg x12 (funext fun a => Fin.ext ?_)
  match a with
  | ⟨0, _⟩ => rfl
  | ⟨1, _⟩ => rfl
  | ⟨2, _⟩ => show 0 + 1 * l.val = l.val; omega
  | ⟨3, _⟩ => show 0 + 1 * k.val = k.val; omega

theorem ld_second (l : Fin 512) (k : Fin 1024) : View.ld x12 r0_3 (ix4 (0 : Fin 1) (0 : Fin 1) l k) = x12 (ix4 (0 : Fin 1) (1 : Fin 3) l k) := by
  refine congrArg x12 (funext fun a => Fin.ext ?_)
  match a with
  | ⟨0, _⟩ => rfl
  | ⟨1, _⟩ => rfl
  | ⟨2, _⟩ => show 0 + 1 * l.val = l.val; omega
  | ⟨3, _⟩ => show 0 + 1 * k.val = k.val; omega

theorem ld_third (l : Fin 512) (k : Fin 1024) : View.ld x12 r0_4 (ix4 (0 : Fin 1) (0 : Fin 1) l k) = x12 (ix4 (0 : Fin 1) (2 : Fin 3) l k) := by
  refine congrArg x12 (funext fun a => Fin.ext ?_)
  match a with
  | ⟨0, _⟩ => rfl
  | ⟨1, _⟩ => rfl
  | ⟨2, _⟩ => show 0 + 1 * l.val = l.val; omega
  | ⟨3, _⟩ => show 0 + 1 * k.val = k.val; omega

/-- An entry of a point's block of the result. -/
theorem out_at (r : Fin 512) (d : Fin 1024) : out0_14 x0 x1 x2 x3 x4 x5 x6 x7 x8 x9 x10 x11 x12 x13 (ix2 r d)
    = result (projected (fun k => branch (fun l => x0 (ix2 r l)) (fun l => x3 (ix2 r l)) (fun l => x12 (ix4 (0 : Fin 1) (0 : Fin 3) l k)) (x6 (ix2 r k))
          + branch (fun l => x1 (ix2 r l)) (fun l => x4 (ix2 r l)) (fun l => x12 (ix4 (0 : Fin 1) (1 : Fin 3) l k)) (x7 (ix2 r k))
          + branch (fun l => x2 (ix2 r l)) (fun l => x5 (ix2 r l)) (fun l => x12 (ix4 (0 : Fin 1) (2 : Fin 3) l k)) (x8 (ix2 r k)))
        (fun k e => x13 (ix3 (0 : Fin 1) k e))) (fun e => x9 (ix2 r e)) (fun e => x10 (ix3 (0 : Fin 1) (0 : Fin 1) e)) (fun e => x11 (ix2 (0 : Fin 1) e)) d := by
  rw [out_eq, last_at]
  refine congrArg (fun s => result (projected s _) _ _ _ d) (funext fun k => ?_)
  unfold third
  rw [second_at, first_at]
  exact congrArg₂ (· + ·) (congrArg₂ (· + ·) (congrArg (fun w => branch _ _ w _) (funext fun l => ld_first x12 l k))
    (congrArg (fun w => branch _ _ w _) (funext fun l => ld_second x12 l k))) (congrArg (fun w => branch _ _ w _) (funext fun l => ld_third x12 l k))

end Pieces

end Cert.Proof.Mrg

end
-- ==== Proof.MergeOperands.lean ====
/-
  The arrays that the merge call is launched on, read at an index from its arguments.
-/
module

public import proofs.«01_k».proof.Proof.Gen.Kernel2Ideal.Value
public import Idealize.ShloMosaic.Lib.Pointwise
public import Idealize.ShloMosaic.Lib.Pipeline.Value
public import Idealize.ShloMosaic.Lib.StableHlo.ReadAt

@[expose] public section

set_option maxRecDepth 16384
set_option maxHeartbeats 400000

noncomputable section

namespace Cert.Proof.Mrg

open Cert.Kernel2Ideal Cert.Kernel2Ideal.Gen
open Idealize.ShloMosaic Idealize.ShloMosaic.TcCoe

variable (m : (ℓ : Loc nD τ sig) → Buf (Elt Ideal) ℓ) (c : Dev nD)

theorem y0_at (r : Fin 16384) (l : Fin 512) :
    V m c main_v7 (ix2 r l) = m ((c.tc : Thread nD τ).loc main_arg0) (ix3 (⟨r.val / 4096, by omega⟩ : Fin 4) (⟨r.val % 4096, by omega⟩ : Fin 4096) l) := by
  unfold V hostOps0
  after_reads_at

theorem y1_at (r : Fin 16384) (l : Fin 512) :
    V m c main_v8 (ix2 r l) = m ((c.tc : Thread nD τ).loc main_arg1) (ix3 (⟨r.val / 4096, by omega⟩ : Fin 4) (⟨r.val % 4096, by omega⟩ : Fin 4096) l) := by
  unfold V hostOps0
  after_reads_at

theorem y2_at (r : Fin 16384) (l : Fin 512) :
    V m c main_v9 (ix2 r l) = m ((c.tc : Thread nD τ).loc main_arg2) (ix3 (⟨r.val / 4096, by omega⟩ : Fin 4) (⟨r.val % 4096, by omega⟩ : Fin 4096) l) := by
  unfold V hostOps0
  after_reads_at

theorem x_at (r : Fin 16384) (k : Fin 1024) :
    V m c main_v10 (ix2 r k) = m ((c.tc : Thread nD τ).loc main_arg5) (ix3 (⟨r.val / 4096, by omega⟩ : Fin 4) (⟨r.val % 4096, by omega⟩ : Fin 4096) k) := by
  unfold V hostOps0
  after_reads_at

theorem gate_at (b : Fin 4) (k : Fin 1024) :
    V m c main_v11 (ix3 b (0 : Fin 1) k) = m ((c.tc : Thread nD τ).loc main_arg6) (ix2 b k) := by
  unfold V hostOps0
  after_reads_at

theorem gain_at (k : Fin 1024) :
    V m c main_v12 (ix2 (0 : Fin 1) k) = m ((c.tc : Thread nD τ).loc main_arg7) (ix1 k) := by
  unfold V hostOps0
  after_reads_at

theorem wbr_at (n : Fin 3) (l : Fin 512) (k : Fin 1024) :
    V m c main_v14 (ix4 (0 : Fin 1) n l k) = m ((c.tc : Thread nD τ).loc main_arg8) (ix3 n l k) := by
  unfold V hostOps0
  after_reads_at

theorem wout_at (k d : Fin 1024) :
    V m c main_v16 (ix3 (0 : Fin 1) k d) = m ((c.tc : Thread nD τ).loc main_arg9) (ix2 k d) := by
  unfold V hostOps0
  after_reads_at

theorem logits_joined :
    V m c main_v6 = (concatenate S16384x8192 1 [⟨S16384x2560, (V m c main_v0 : Vec Ideal S16384x2560 .bf16)⟩, ⟨S16384x1536, (V m c main_v2 : Vec Ideal S16384x1536 .bf16)⟩, ⟨S16384x3072, (V m c main_v4 : Vec Ideal S16384x3072 .bf16)⟩, ⟨S16384x1024, (V m c main_v5 : Vec Ideal S16384x1024 .bf16)⟩]
      concatenates_S16384x2560_S16384x1536_S16384x3072_S16384x1024_S16384x8192_d1 : Vec Ideal S16384x8192 .bf16) := by
  unfold V hostOps0
  simp only [StableHlo.after_cons, StableHlo.after_nil]
  repeat (rw [StableHlo.nary_result_ne]; rotate_left; decide)
  rfl

theorem part1_at (r : Fin 16384) (j : Fin 1536) :
    V m c main_v2 (ix2 r j) = m ((c.tc : Thread nD τ).loc main_arg3) (ix3 (⟨r.val / 4096, by omega⟩ : Fin 4) (⟨r.val % 4096, by omega⟩ : Fin 4096) j) := by
  unfold V hostOps0
  after_reads_at

theorem part2_at (r : Fin 16384) (j : Fin 3072) :
    V m c main_v4 (ix2 r j) = m ((c.tc : Thread nD τ).loc main_arg4) (ix3 (⟨r.val / 4096, by omega⟩ : Fin 4) (⟨r.val % 4096, by omega⟩ : Fin 4096) j) := by
  unfold V hostOps0
  after_reads_at

/-- The first gates' logits, at column 2560 of the joined array. -/
theorem z_at (r : Fin 16384) (j : Fin 1536) :
    V m c main_v6 (ix2 r (⟨2560 + j.val, by omega⟩ : Fin 8192)) = m ((c.tc : Thread nD τ).loc main_arg3) (ix3 (⟨r.val / 4096, by omega⟩ : Fin 4) (⟨r.val % 4096, by omega⟩ : Fin 4096) j) := by
  rw [logits_joined]
  refine (concatenate_apply_piece (t := S16384x8192) 1 _ _ (ix2 r (⟨2560 + j.val, by omega⟩ : Fin 8192)) 1 (by show 1 < 4; decide) S16384x1536 (V m c main_v2) (by rfl) (by rfl) 2560 (by rfl) (ix2 r j) (fun b hb => ?_) rfl).trans (part1_at m c r j)
  match b with
  | ⟨0, _⟩ => rfl
  | ⟨1, _⟩ => exact absurd rfl hb

/-- The second gates' logits, at column 4096 of the joined array. -/
theorem g_at (r : Fin 16384) (j : Fin 3072) :
    V m c main_v6 (ix2 r (⟨4096 + j.val, by omega⟩ : Fin 8192)) = m ((c.tc : Thread nD τ).loc main_arg4) (ix3 (⟨r.val / 4096, by omega⟩ : Fin 4) (⟨r.val % 4096, by omega⟩ : Fin 4096) j) := by
  rw [logits_joined]
  refine (concatenate_apply_piece (t := S16384x8192) 1 _ _ (ix2 r (⟨4096 + j.val, by omega⟩ : Fin 8192)) 2 (by show 2 < 4; decide) S16384x3072 (V m c main_v4) (by rfl) (by rfl) 4096 (by rfl) (ix2 r j) (fun b hb => ?_) rfl).trans (part2_at m c r j)
  match b with
  | ⟨0, _⟩ => rfl
  | ⟨1, _⟩ => exact absurd rfl hb

end Cert.Proof.Mrg

end
-- ==== Proof.MergeRef.lean ====
/-
  The merge's reference over the extended reals, read at an index.
-/
module

public import proofs.«01_k».proof.Proof.Gen.Reference2Ideal
public import proofs.«01_k».proof.Proof.Gen.Reference2Ideal.Run
public import proofs.«01_k».proof.Proof.Gen.Reference2Ideal.Read
public import proofs.«01_k».proof.Proof.MergeMath
public import Idealize.ShloMosaic.Lib.Pointwise
public import Idealize.ShloMosaic.Lib.Pipeline.Value

@[expose] public section

set_option maxRecDepth 16384
set_option maxHeartbeats 400000

noncomputable section

namespace Cert.Proof.MrgRef

open Cert.Reference2Ideal Cert.Reference2Ideal.Gen Cert.Reference2Ideal.Read
open Idealize.ShloMosaic Idealize.ShloMosaic.TcCoe

variable (x0 x1 x2 : (⟨S4x4096x512, .f32⟩ : BufTy).Contents (Elt Ideal)) (x3 : (⟨S4x4096x1536, .f32⟩ : BufTy).Contents (Elt Ideal)) (x4 : (⟨S4x4096x3072, .f32⟩ : BufTy).Contents (Elt Ideal))
  (x5 : (⟨S4x4096x1024, .f32⟩ : BufTy).Contents (Elt Ideal)) (x6 : (⟨S4x1024, .f32⟩ : BufTy).Contents (Elt Ideal)) (x7 : (⟨S1024, .f32⟩ : BufTy).Contents (Elt Ideal)) (x8 : (⟨S3x512x1024, .f32⟩ : BufTy).Contents (Elt Ideal)) (x9 : (⟨S1024x1024, .f32⟩ : BufTy).Contents (Elt Ideal))

theorem stacked0_at (b : Fin 4) (t : Fin 4096) (l : Fin 512) : val_main_v3 (F := Ideal) x0 x1 x2 (ix4 b t (0 : Fin 3) l) = x0 (ix3 b t l) := by
  pointwise [val_main_v3, val_main_v0, val_main_v1, val_main_v2]

theorem stacked1_at (b : Fin 4) (t : Fin 4096) (l : Fin 512) : val_main_v3 (F := Ideal) x0 x1 x2 (ix4 b t (1 : Fin 3) l) = x1 (ix3 b t l) := by
  pointwise [val_main_v3, val_main_v0, val_main_v1, val_main_v2]

theorem stacked2_at (b : Fin 4) (t : Fin 4096) (l : Fin 512) : val_main_v3 (F := Ideal) x0 x1 x2 (ix4 b t (2 : Fin 3) l) = x2 (ix3 b t l) := by
  pointwise [val_main_v3, val_main_v0, val_main_v1, val_main_v2]

theorem gated_at (b : Fin 4) (t : Fin 4096) (n : Fin 3) (l : Fin 512) :
    val_main_v6 (F := Ideal) x0 x1 x2 x3 (ix4 b t n l)
      = val_main_v3 (F := Ideal) x0 x1 x2 (ix4 b t n l) * (x3 (ix3 b t (⟨n.val * 512 + l.val, by omega⟩ : Fin 1536)) * Mrg.sg (x3 (ix3 b t (⟨n.val * 512 + l.val, by omega⟩ : Fin 1536)))) := by
  unfold Mrg.sg
  pointwise [val_main_v6, val_main_v5, val_main_v4, val_main_call0_v5, val_main_call0_v4, val_main_call0_v3, val_main_call0_v2, val_main_call0_v1, val_main_call0_v0, val_main_call0_cst, val_main_call0_cst_0]

theorem branch_at (b : Fin 4) (t : Fin 4096) (n : Fin 3) (k : Fin 1024) :
    val_main_v8 (F := Ideal) x0 x1 x2 x3 x8 (ix4 b t n k)
      = ∑ l : Fin 512, x8 (ix3 n l k) * val_main_v6 (F := Ideal) x0 x1 x2 x3 (ix4 b t n l) := by
  pointwise [val_main_v8, val_main_v7]

theorem second_gate_at (b : Fin 4) (t : Fin 4096) (n : Fin 3) (k : Fin 1024) :
    val_main_v15 (F := Ideal) x4 (ix4 b t n k) = Mrg.sg (x4 (ix3 b t (⟨n.val * 1024 + k.val, by omega⟩ : Fin 3072))) := by
  unfold Mrg.sg
  pointwise [val_main_v15, val_main_v14, val_main_v13, val_main_v12, val_main_v11, val_main_v10, val_main_v9, val_main_cst, val_main_cst_0]

theorem summed_at (b : Fin 4) (t : Fin 4096) (k : Fin 1024) :
    val_main_v17 (F := Ideal) x0 x1 x2 x3 x4 x8 (ix3 b t k)
      = ∑ n : Fin 3, val_main_v8 (F := Ideal) x0 x1 x2 x3 x8 (ix4 b t n k) * val_main_v15 (F := Ideal) x4 (ix4 b t n k) := by
  pointwise [val_main_v17, val_main_v16, val_main_cst_1]

theorem projected_at (b : Fin 4) (t : Fin 4096) (d : Fin 1024) :
    val_main_v18 (F := Ideal) x0 x1 x2 x3 x4 x8 x9 (ix3 b t d)
      = Mrg.projected (fun k => val_main_v17 (F := Ideal) x0 x1 x2 x3 x4 x8 (ix3 b t k)) (fun k e => x9 (ix2 k e)) d := by
  unfold Mrg.projected
  pointwise [val_main_v18]

theorem result_at (r : Fin 16384) (d : Fin 1024) :
    val_main_v36 (F := Ideal) x0 x1 x2 x3 x4 x5 x6 x7 x8 x9 (ix2 r d)
      = Mrg.result (fun e => val_main_v18 (F := Ideal) x0 x1 x2 x3 x4 x8 x9 (ix3 (⟨r.val / 4096, by omega⟩ : Fin 4) (⟨r.val % 4096, by omega⟩ : Fin 4096) e))
          (fun e => x5 (ix3 (⟨r.val / 4096, by omega⟩ : Fin 4) (⟨r.val % 4096, by omega⟩ : Fin 4096) e)) (fun e => x6 (ix2 (⟨r.val / 4096, by omega⟩ : Fin 4) e)) (fun e => x7 (ix1 e)) d := by
  unfold Mrg.result
  pointwise [val_main_v36, val_main_v35, val_main_v34, val_main_v33, val_main_v32, val_main_v31, val_main_v30, val_main_v29, val_main_v28, val_main_v27, val_main_v26, val_main_v25, val_main_v24, val_main_v23,
    val_main_v22, val_main_v21, val_main_v20, val_main_v19, val_main_cst_2, val_main_cst_3, val_main_cst_4]

/-- One branch of the reference's sum. -/
theorem term_at (y : Fin 512 → EReal) (b : Fin 4) (t : Fin 4096) (n : Fin 3) (k : Fin 1024) (hy : ∀ l : Fin 512, val_main_v3 (F := Ideal) x0 x1 x2 (ix4 b t n l) = y l) :
    val_main_v8 (F := Ideal) x0 x1 x2 x3 x8 (ix4 b t n k) * val_main_v15 (F := Ideal) x4 (ix4 b t n k)
      = Mrg.branch y (fun l => x3 (ix3 b t (⟨n.val * 512 + l.val, by omega⟩ : Fin 1536))) (fun l => x8 (ix3 n l k)) (x4 (ix3 b t (⟨n.val * 1024 + k.val, by omega⟩ : Fin 3072))) := by
  rw [branch_at, second_gate_at]
  unfold Mrg.branch
  refine congrArg (· * _) (Finset.sum_congr rfl fun l _ => ?_)
  rw [gated_at, hy]
  exact mul_comm (G := EReal) _ _

/-- The three branches' sum at a place of a sequence. -/
def sums (b : Fin 4) (t : Fin 4096) (k : Fin 1024) : EReal :=
  Mrg.branch (fun l => x0 (ix3 b t l)) (fun l => x3 (ix3 b t (⟨l.val, by omega⟩ : Fin 1536))) (fun l => x8 (ix3 (0 : Fin 3) l k)) (x4 (ix3 b t (⟨k.val, by omega⟩ : Fin 3072)))
    + Mrg.branch (fun l => x1 (ix3 b t l)) (fun l => x3 (ix3 b t (⟨512 + l.val, by omega⟩ : Fin 1536))) (fun l => x8 (ix3 (1 : Fin 3) l k)) (x4 (ix3 b t (⟨1024 + k.val, by omega⟩ : Fin 3072)))
    + Mrg.branch (fun l => x2 (ix3 b t l)) (fun l => x3 (ix3 b t (⟨1024 + l.val, by omega⟩ : Fin 1536))) (fun l => x8 (ix3 (2 : Fin 3) l k)) (x4 (ix3 b t (⟨2048 + k.val, by omega⟩ : Fin 3072)))

theorem sums_at (b : Fin 4) (t : Fin 4096) (k : Fin 1024) : val_main_v17 (F := Ideal) x0 x1 x2 x3 x4 x8 (ix3 b t k) = sums x0 x1 x2 x3 x4 x8 b t k := by
  rw [summed_at, Fin.sum_univ_three, term_at x0 x1 x2 x3 x4 x8 _ b t 0 k (stacked0_at x0 x1 x2 b t), term_at x0 x1 x2 x3 x4 x8 _ b t 1 k (stacked1_at x0 x1 x2 b t), term_at x0 x1 x2 x3 x4 x8 _ b t 2 k (stacked2_at x0 x1 x2 b t)]
  have e0 : ∀ (l : ℕ) (h : (0 : Fin 3).val * 512 + l < 1536) (h' : l < 1536), (⟨(0 : Fin 3).val * 512 + l, h⟩ : Fin 1536) = ⟨l, h'⟩ := fun l _ _ => Fin.ext (by show 0 * 512 + l = l; omega)
  have f0 : ∀ (l : ℕ) (h : (0 : Fin 3).val * 1024 + l < 3072) (h' : l < 3072), (⟨(0 : Fin 3).val * 1024 + l, h⟩ : Fin 3072) = ⟨l, h'⟩ := fun l _ _ => Fin.ext (by show 0 * 1024 + l = l; omega)
  unfold sums
  refine congrArg₂ (· + ·) (congrArg₂ (· + ·) ?_ rfl) rfl
  exact congrArg₂ (fun z g => Mrg.branch _ z _ g) (funext fun l => congrArg (fun a => x3 (ix3 b t a)) (e0 l.val _ _)) (congrArg (fun a => x4 (ix3 b t a)) (f0 k.val _ _))

/-- An entry of the reference's result. -/
theorem out_at (r : Fin 16384) (d : Fin 1024) :
    val_main_v36 (F := Ideal) x0 x1 x2 x3 x4 x5 x6 x7 x8 x9 (ix2 r d)
      = Mrg.result (Mrg.projected (sums x0 x1 x2 x3 x4 x8 (⟨r.val / 4096, by omega⟩ : Fin 4) (⟨r.val % 4096, by omega⟩ : Fin 4096)) (fun k e => x9 (ix2 k e)))
          (fun e => x5 (ix3 (⟨r.val / 4096, by omega⟩ : Fin 4) (⟨r.val % 4096, by omega⟩ : Fin 4096) e)) (fun e => x6 (ix2 (⟨r.val / 4096, by omega⟩ : Fin 4) e)) (fun e => x7 (ix1 e)) d := by
  rw [result_at]
  refine congrArg (fun Y => Mrg.result Y _ _ _ d) (funext fun e => ?_)
  rw [projected_at]
  exact congrArg (fun s => Mrg.projected s _ e) (funext fun k => sums_at x0 x1 x2 x3 x4 x8 _ _ k)

end Cert.Proof.MrgRef

end
-- ==== Proof.MergeGoal.lean ====
/-
  The merge call computes the reference's merge over the extended reals.
-/
module

public import proofs.«01_k».proof.Defs
public import proofs.«01_k».proof.Proof.MergeBody
public import proofs.«01_k».proof.Proof.MergeOperands
public import proofs.«01_k».proof.Proof.MergeRef

@[expose] public section

set_option maxRecDepth 16384
set_option maxHeartbeats 400000

noncomputable section

namespace Cert.Proof.Mrg

open Cert.Kernel2Ideal Cert.Kernel2Ideal.Gen
open Idealize.ShloMosaic Idealize.ShloMosaic.TcCoe Idealize.ShloMosaic.Tactic Idealize.SL.Sem

variable (m : (ℓ : Loc nD τ sig) → Buf (Elt Ideal) ℓ) (c : Dev nD)

theorem branch_congr {y y' z z' w w' : Fin 512 → EReal} {g g' : EReal} (hy : ∀ l, y l = y' l) (hz : ∀ l, z l = z' l) (hw : ∀ l, w l = w' l) (hg : g = g') : branch y z w g = branch y' z' w' g' := by
  rw [funext hy, funext hz, funext hw, hg]

theorem projected_congr {s s' : Fin 1024 → EReal} {wo wo' : Fin 1024 → Fin 1024 → EReal} (hs : ∀ k, s k = s' k) (hw : ∀ k e, wo k e = wo' k e) : projected s wo = projected s' wo' := by
  rw [funext hs, funext fun k => funext (hw k)]

theorem result_congr {Y Y' x x' a a' p p' : Fin 1024 → EReal} (hY : Y = Y') (hx : ∀ k, x k = x' k) (ha : ∀ k, a k = a' k) (hp : ∀ k, p k = p' k) (d : Fin 1024) : result Y x a p d = result Y' x' a' p' d := by
  rw [hY, funext hx, funext ha, funext hp]

/-- A row of the result, from the launch's arguments: row `R` is place `R % 4096` of sequence `R / 4096`. -/
def outRow (R : ℕ) (d : Fin 1024) : EReal :=
  result (projected (MrgRef.sums (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8))
      ⟨R / 4096 % 4, Nat.mod_lt _ (by decide)⟩ ⟨R % 4096, Nat.mod_lt _ (by decide)⟩) (fun k e => m ((c.tc : Thread nD τ).loc main_arg9) (ix2 k e)))
    (fun e => m ((c.tc : Thread nD τ).loc main_arg5) (ix3 (⟨R / 4096 % 4, Nat.mod_lt _ (by decide)⟩ : Fin 4) (⟨R % 4096, Nat.mod_lt _ (by decide)⟩ : Fin 4096) e))
    (fun e => m ((c.tc : Thread nD τ).loc main_arg6) (ix2 (⟨R / 4096 % 4, Nat.mod_lt _ (by decide)⟩ : Fin 4) e)) (fun e => m ((c.tc : Thread nD τ).loc main_arg7) (ix1 e)) d

/-- The whole result array. -/
def outArr : Vec Ideal S16384x1024 .f32 := fun j => outRow m c (j 0).val (j 1)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 5] := by decide +kernel
theorem idx4 : ∀ t : Fin cfg0.N, win0_4.index t = ![t.val, 6] := by decide +kernel
theorem idx5 : ∀ t : Fin cfg0.N, win0_5.index t = ![t.val, 7] := by decide +kernel
theorem idx6 : ∀ t : Fin cfg0.N, win0_6.index t = ![t.val, 4] := by decide +kernel
theorem idx7 : ∀ t : Fin cfg0.N, win0_7.index t = ![t.val, 5] := by decide +kernel
theorem idx8 : ∀ t : Fin cfg0.N, win0_8.index t = ![t.val, 6] := by decide +kernel
theorem idx9 : ∀ t : Fin cfg0.N, win0_9.index t = ![t.val, 0] := by decide +kernel
theorem idx10 : ∀ t : Fin cfg0.N, win0_10.index t = ![t.val / 8, 0, 0] := by decide +kernel
theorem idx11 : ∀ t : Fin cfg0.N, win0_11.index t = ![0, 0] := by decide +kernel
theorem idx12 : ∀ t : Fin cfg0.N, win0_12.index t = ![0, 0, 0, 0] := by decide +kernel
theorem idx13 : ∀ t : Fin cfg0.N, win0_13.index t = ![0, 0, 0] := by decide +kernel
theorem idx14 : ∀ t : Fin cfg0.N, win0_14.index t = ![t.val, 0] := by decide +kernel

section Blocks
variable (t : Fin cfg0.N) (ht : t.val < 32)

/-- A row of a block is a row of a sequence. -/
theorem seq_of (R : ℕ) (hR : R < 16384) (h : R / 4096 < 4) : (⟨R / 4096, h⟩ : Fin 4) = ⟨R / 4096 % 4, Nat.mod_lt _ (by decide)⟩ :=
  Fin.ext (by show R / 4096 = R / 4096 % 4; omega)

theorem blk0 (r l : Fin 512) : iblk m c 0 t (ix2 r l) = V m c main_v7 (ix2 (⟨512 * t.val + r.val, by omega⟩ : Fin 16384) l) := by
  unfold iblk
  rw [View.read_apply]
  refine congrArg (V m c main_v7) (funext fun a => Fin.ext ?_)
  blk_simp [idx0]
  match a with
  | ⟨0, _⟩ => show t.val * 512 + r.val = 512 * t.val + r.val; omega
  | ⟨1, _⟩ => show 0 * 512 + l.val = l.val; omega

theorem blk1 (r l : Fin 512) : iblk m c 1 t (ix2 r l) = V m c main_v8 (ix2 (⟨512 * t.val + r.val, by omega⟩ : Fin 16384) l) := by
  unfold iblk
  rw [View.read_apply]
  refine congrArg (V m c main_v8) (funext fun a => Fin.ext ?_)
  blk_simp [idx1]
  match a with
  | ⟨0, _⟩ => show t.val * 512 + r.val = 512 * t.val + r.val; omega
  | ⟨1, _⟩ => show 0 * 512 + l.val = l.val; omega

theorem blk2 (r l : Fin 512) : iblk m c 2 t (ix2 r l) = V m c main_v9 (ix2 (⟨512 * t.val + r.val, by omega⟩ : Fin 16384) l) := by
  unfold iblk
  rw [View.read_apply]
  refine congrArg (V m c main_v9) (funext fun a => Fin.ext ?_)
  blk_simp [idx2]
  match a with
  | ⟨0, _⟩ => show t.val * 512 + r.val = 512 * t.val + r.val; omega
  | ⟨1, _⟩ => show 0 * 512 + l.val = l.val; omega

theorem blk3 (r l : Fin 512) : iblk m c 3 t (ix2 r l) = V m c main_v6 (ix2 (⟨512 * t.val + r.val, by omega⟩ : Fin 16384) (⟨2560 + (⟨0 + l.val, by omega⟩ : Fin 1536).val, by omega⟩ : Fin 8192)) := by
  unfold iblk
  rw [View.read_apply]
  refine congrArg (V m c main_v6) (funext fun a => Fin.ext ?_)
  blk_simp [idx3]
  match a with
  | ⟨0, _⟩ => show t.val * 512 + r.val = 512 * t.val + r.val; omega
  | ⟨1, _⟩ => show 5 * 512 + l.val = 2560 + l.val; omega

theorem blk4 (r l : Fin 512) : iblk m c 4 t (ix2 r l) = V m c main_v6 (ix2 (⟨512 * t.val + r.val, by omega⟩ : Fin 16384) (⟨2560 + (⟨512 + l.val, by omega⟩ : Fin 1536).val, by omega⟩ : Fin 8192)) := by
  unfold iblk
  rw [View.read_apply]
  refine congrArg (V m c main_v6) (funext fun a => Fin.ext ?_)
  blk_simp [idx4]
  match a with
  | ⟨0, _⟩ => show t.val * 512 + r.val = 512 * t.val + r.val; omega
  | ⟨1, _⟩ => show 6 * 512 + l.val = 2560 + (512 + l.val); omega

theorem blk5 (r l : Fin 512) : iblk m c 5 t (ix2 r l) = V m c main_v6 (ix2 (⟨512 * t.val + r.val, by omega⟩ : Fin 16384) (⟨2560 + (⟨1024 + l.val, by omega⟩ : Fin 1536).val, by omega⟩ : Fin 8192)) := by
  unfold iblk
  rw [View.read_apply]
  refine congrArg (V m c main_v6) (funext fun a => Fin.ext ?_)
  blk_simp [idx5]
  match a with
  | ⟨0, _⟩ => show t.val * 512 + r.val = 512 * t.val + r.val; omega
  | ⟨1, _⟩ => show 7 * 512 + l.val = 2560 + (1024 + l.val); omega

theorem blk6 (r : Fin 512) (j : Fin 1024) : iblk m c 6 t (ix2 r j) = V m c main_v6 (ix2 (⟨512 * t.val + r.val, by omega⟩ : Fin 16384) (⟨4096 + (⟨0 + j.val, by omega⟩ : Fin 3072).val, by omega⟩ : Fin 8192)) := by
  unfold iblk
  rw [View.read_apply]
  refine congrArg (V m c main_v6) (funext fun a => Fin.ext ?_)
  blk_simp [idx6]
  match a with
  | ⟨0, _⟩ => show t.val * 512 + r.val = 512 * t.val + r.val; omega
  | ⟨1, _⟩ => show 4 * 1024 + j.val = 4096 + j.val; omega

theorem blk7 (r : Fin 512) (j : Fin 1024) : iblk m c 7 t (ix2 r j) = V m c main_v6 (ix2 (⟨512 * t.val + r.val, by omega⟩ : Fin 16384) (⟨4096 + (⟨1024 + j.val, by omega⟩ : Fin 3072).val, by omega⟩ : Fin 8192)) := by
  unfold iblk
  rw [View.read_apply]
  refine congrArg (V m c main_v6) (funext fun a => Fin.ext ?_)
  blk_simp [idx7]
  match a with
  | ⟨0, _⟩ => show t.val * 512 + r.val = 512 * t.val + r.val; omega
  | ⟨1, _⟩ => show 5 * 1024 + j.val = 4096 + (1024 + j.val); omega

theorem blk8 (r : Fin 512) (j : Fin 1024) : iblk m c 8 t (ix2 r j) = V m c main_v6 (ix2 (⟨512 * t.val + r.val, by omega⟩ : Fin 16384) (⟨4096 + (⟨2048 + j.val, by omega⟩ : Fin 3072).val, by omega⟩ : Fin 8192)) := by
  unfold iblk
  rw [View.read_apply]
  refine congrArg (V m c main_v6) (funext fun a => Fin.ext ?_)
  blk_simp [idx8]
  match a with
  | ⟨0, _⟩ => show t.val * 512 + r.val = 512 * t.val + r.val; omega
  | ⟨1, _⟩ => show 6 * 1024 + j.val = 4096 + (2048 + j.val); omega

theorem blk9 (r : Fin 512) (j : Fin 1024) : iblk m c 9 t (ix2 r j) = V m c main_v10 (ix2 (⟨512 * t.val + r.val, by omega⟩ : Fin 16384) j) := by
  unfold iblk
  rw [View.read_apply]
  refine congrArg (V m c main_v10) (funext fun a => Fin.ext ?_)
  blk_simp [idx9]
  match a with
  | ⟨0, _⟩ => show t.val * 512 + r.val = 512 * t.val + r.val; omega
  | ⟨1, _⟩ => show 0 * 1024 + j.val = j.val; omega

theorem blk10 (j : Fin 1024) : iblk m c 10 t (ix3 (0 : Fin 1) (0 : Fin 1) j) = V m c main_v11 (ix3 (⟨t.val / 8, by omega⟩ : Fin 4) (0 : Fin 1) j) := by
  unfold iblk
  rw [View.read_apply]
  refine congrArg (V m c main_v11) (funext fun a => Fin.ext ?_)
  blk_simp [idx10]
  match a with
  | ⟨0, _⟩ => show t.val / 8 * 1 + 0 = t.val / 8; omega
  | ⟨1, _⟩ => rfl
  | ⟨2, _⟩ => show 0 * 1024 + j.val = j.val; omega

theorem blk11 (j : Fin 1024) : iblk m c 11 t (ix2 (0 : Fin 1) j) = V m c main_v12 (ix2 (0 : Fin 1) j) := by
  unfold iblk
  rw [View.read_apply]
  refine congrArg (V m c main_v12) (funext fun a => Fin.ext ?_)
  blk_simp [idx11]
  match a with
  | ⟨0, _⟩ => rfl
  | ⟨1, _⟩ => show 0 * 1024 + j.val = j.val; omega

theorem blk12 (n : Fin 3) (l : Fin 512) (k : Fin 1024) : iblk m c 12 t (ix4 (0 : Fin 1) n l k) = V m c main_v14 (ix4 (0 : Fin 1) n l k) := by
  unfold iblk
  rw [View.read_apply]
  refine congrArg (V m c main_v14) (funext fun a => Fin.ext ?_)
  blk_simp [idx12]
  match a with
  | ⟨0, _⟩ => rfl
  | ⟨1, _⟩ => show 0 * 3 + n.val = n.val; omega
  | ⟨2, _⟩ => show 0 * 512 + l.val = l.val; omega
  | ⟨3, _⟩ => show 0 * 1024 + k.val = k.val; omega

theorem blk13 (k d : Fin 1024) : iblk m c 13 t (ix3 (0 : Fin 1) k d) = V m c main_v16 (ix3 (0 : Fin 1) k d) := by
  unfold iblk
  rw [View.read_apply]
  refine congrArg (V m c main_v16) (funext fun a => Fin.ext ?_)
  blk_simp [idx13]
  match a with
  | ⟨0, _⟩ => rfl
  | ⟨1, _⟩ => show 0 * 1024 + k.val = k.val; omega
  | ⟨2, _⟩ => show 0 * 1024 + d.val = d.val; omega

include ht in
/-- An entry of the block that a point leaves. -/
theorem point (r : Fin 512) (d : Fin 1024) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r d)
      = outRow m c (512 * t.val + r.val) d := by
  have hR : 512 * t.val + r.val < 16384 := by omega
  have eb : (⟨t.val / 8, by omega⟩ : Fin 4) = ⟨(512 * t.val + r.val) / 4096 % 4, Nat.mod_lt _ (by decide)⟩ := Fin.ext (by show t.val / 8 = (512 * t.val + r.val) / 4096 % 4; omega)
  have es := seq_of (512 * t.val + r.val) hR (by omega)
  refine (out_at _ _ _ _ _ _ _ _ _ _ _ _ _ _ r d).trans ?_
  unfold outRow MrgRef.sums
  simp only [← es]
  have ey0 : ∀ l : Fin 512, iblk m c 0 t (ix2 r l) = _ := fun l => (blk0 m c t ht r l).trans (y0_at m c _ l)
  have ey1 : ∀ l : Fin 512, iblk m c 1 t (ix2 r l) = _ := fun l => (blk1 m c t ht r l).trans (y1_at m c _ l)
  have ey2 : ∀ l : Fin 512, iblk m c 2 t (ix2 r l) = _ := fun l => (blk2 m c t ht r l).trans (y2_at m c _ l)
  have ez0 : ∀ l : Fin 512, iblk m c 3 t (ix2 r l) = _ := fun l => (blk3 m c t ht r l).trans (z_at m c _ _)
  have ez1 : ∀ l : Fin 512, iblk m c 4 t (ix2 r l) = _ := fun l => (blk4 m c t ht r l).trans (z_at m c _ _)
  have ez2 : ∀ l : Fin 512, iblk m c 5 t (ix2 r l) = _ := fun l => (blk5 m c t ht r l).trans (z_at m c _ _)
  have eg0 : ∀ k : Fin 1024, iblk m c 6 t (ix2 r k) = _ := fun k => (blk6 m c t ht r k).trans (g_at m c _ _)
  have eg1 : ∀ k : Fin 1024, iblk m c 7 t (ix2 r k) = _ := fun k => (blk7 m c t ht r k).trans (g_at m c _ _)
  have eg2 : ∀ k : Fin 1024, iblk m c 8 t (ix2 r k) = _ := fun k => (blk8 m c t ht r k).trans (g_at m c _ _)
  have ex : ∀ k : Fin 1024, iblk m c 9 t (ix2 r k) = _ := fun k => (blk9 m c t ht r k).trans (x_at m c _ k)
  have ew : ∀ (n : Fin 3) (l : Fin 512) (k : Fin 1024), iblk m c 12 t (ix4 (0 : Fin 1) n l k) = _ := fun n l k => (blk12 m c t n l k).trans (wbr_at m c n l k)
  have eo : ∀ k e : Fin 1024, iblk m c 13 t (ix3 (0 : Fin 1) k e) = _ := fun k e => (blk13 m c t k e).trans (wout_at m c k e)
  have ep : ∀ e : Fin 1024, iblk m c 11 t (ix2 (0 : Fin 1) e) = _ := fun e => (blk11 m c t e).trans (gain_at m c e)
  have ea : ∀ e : Fin 1024, iblk m c 10 t (ix3 (0 : Fin 1) (0 : Fin 1) e) = _ := fun e => (blk10 m c t ht e).trans (gate_at m c _ e)
  have hs : ∀ k : Fin 1024, _ = _ := fun k => congrArg₂ (· + ·) (congrArg₂ (· + ·)
      (branch_congr (ey0) (ez0) (fun l => ew 0 l k) (eg0 k))
      (branch_congr (ey1) (ez1) (fun l => ew 1 l k) (eg1 k)))
      (branch_congr (ey2) (ez2) (fun l => ew 2 l k) (eg2 k))
  refine (result_congr (projected_congr hs eo) ex (fun e => (ea e).trans (congrArg (fun b => m ((c.tc : Thread nD τ).loc main_arg6) (ix2 b e)) (eb.trans es.symm))) ep d).trans ?_
  simp only [Nat.zero_add]

end Blocks

/-- The result array after the run. -/
theorem array : (dats m 0 c).arrAt 14 cfg0.N = outArr m c := by
  refine (dats m 0 c).arrAt_eq_of_covers 14 _ (by decide +kernel) fun t hf y => ?_
  rw [after0_14]
  have ht : t.val < 32 := t.isLt
  have e0 : (((cfg0.win 14).blk t).view.emb y 0).val = 512 * t.val + (y 0).val := by
    blk_simp [idx14]
    show t.val * 512 + (y 0).val = _
    omega
  have e1 : ((cfg0.win 14).blk t).view.emb y 1 = y 1 := by
    refine Fin.ext ?_
    blk_simp [idx14]
  have ey : y = ix2 (n0 := 512) (n1 := 1024) (y 0) (y 1) := funext fun a => match a with
    | ⟨0, _⟩ => rfl
    | ⟨1, _⟩ => rfl
  blk_simp
  unfold outArr
  rw [e0, e1]
  exact (congrArg _ ey).trans (point m c t ht (y 0) (y 1))

theorem algebraic : Cert.algebraic_Kernel2Ideal_Reference2Ideal (hKernel2Ideal := Cert.Kernel2Ideal.Gen.facts) (hReference2Ideal := Cert.Reference2Ideal.Gen.facts) := by
  intro m g m' g' _ hargs
  have key : ∀ c : Dev nD, outArr m c = Cert.Reference2Ideal.Value.res_main_v36 m' c := by
    intro c
    obtain ⟨h0, h1, h2, h3, h4, h5, h6, h7, h8, h9⟩ := hargs c
    refine Eq.symm ((Cert.Reference2Ideal.Read.val_main_v36_eq m' c).trans ?_)
    rw [h0, h1, h2, h3, h4, h5, h6, h7, h8, h9]
    funext j
    have ej : j = ix2 (n0 := 16384) (n1 := 1024) (j 0) (j 1) := funext fun a => match a with
      | ⟨0, _⟩ => rfl
      | ⟨1, _⟩ => rfl
    refine (congrArg _ ej).trans ((MrgRef.out_at _ _ _ _ _ _ _ _ _ _ (j 0) (j 1)).trans ?_)
    have hj : (j 0).val < 16384 := (j 0).isLt
    have es := seq_of (j 0).val hj (by omega)
    unfold outArr outRow
    rw [← es]
  refine ⟨fun c => outArr m c, ?_, ?_⟩
  · exact (θ_run defs _ _).mono (fun r h c => ⟨(h c).1.trans (array m c), (h c).2⟩) (Cert.Kernel2Ideal.Value.run_blocks m g)
  · exact (θ_run Cert.Reference2Ideal.defs _ _).mono (fun r h c => ⟨(h c).1.trans (key c).symm, (h c).2⟩) (Cert.Reference2Ideal.Value.run m' g')

end Cert.Proof.Mrg

end
-- ==== Proof.lean ====
/-
  The proof of `Cert.Claim`: the frames of the three calls, of their idealizations and of their references, the named
  constants, and the values of the attention, the projection and the merge.
-/
module

public import proofs.«01_k».proof.Defs
public import proofs.«01_k».proof.Proof.Frames
public import proofs.«01_k».proof.Proof.Goal
public import proofs.«01_k».proof.Proof.InGoal
public import proofs.«01_k».proof.Proof.MergeGoal
public import proofs.«01_k».proof.Proof.Gen.Pre_finite_qk
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Read
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run

@[expose] public section

noncomputable section

open Idealize.ShloMosaic Idealize.ShloMosaic.TcCoe Idealize.SL.Sem

namespace Cert.Proof

/-- The merge's reference: no operation writes an argument array, and there are no semaphores. -/
theorem ref2_frame : Cert.quiescent_Reference2Ideal (hReference2Ideal := Cert.Reference2Ideal.Gen.facts) :=
  fun m g _ => (θ_run Cert.Reference2Ideal.defs _ _).mono
    (fun r h => ⟨fun c => (h c).2, sem_eq_zero_of_no_sems (by decide) r.2⟩) (Cert.Reference2Ideal.Value.run m g)

/-- The projection's reference, likewise. -/
theorem ref3_frame : Cert.quiescent_Reference3Ideal (hReference3Ideal := Cert.Reference3Ideal.Gen.facts) :=
  fun m g _ => (θ_run Cert.Reference3Ideal.defs _ _).mono
    (fun r h => ⟨fun c => (h c).2, sem_eq_zero_of_no_sems (by decide) r.2⟩) (Cert.Reference3Ideal.Value.run m g)

/-- The merge's rounded -log2(e) read as minus the inverse of log 2. -/
theorem nlog2e_named : Cert.preserves_Kernel2_Kernel2Ideal :=
  IdealRules.named_const.statement Cert.Kernel2Ideal.κ "nlog2e" .f32 0xBFB8AA3B#32 ((-((Real.log 2)⁻¹) : ℝ) : EReal) rfl

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_finite_qk.Gen.facts,
    kernel_frame, ideal_frame, fun m g _ => Att.frameRun m g, ref_frame, fun m g _ => ref_frame m g trivial,
    fun m g _ => Cert.Kernel2.Gen.frame m g, fun m g _ => Cert.Kernel2Ideal.Gen.frame m g, ref2_frame,
    fun m g _ => Cert.Kernel3.Gen.frame m g, fun m g _ => Cert.Kernel3Ideal.Gen.frame m g, ref3_frame,
    mask_named, Att.algebraic, nlog2e_named, Mrg.algebraic, trivial, Inp.algebraic⟩

end Cert.Proof

end
